-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_even_partition [hPre_even_partition : Cert.Pre_even_partition.Facts] (m : (ℓ : Loc Cert.KernelIdeal.nD Cert.KernelIdeal.τ Cert.KernelIdeal.sig) → Buf (Elt Ideal) ℓ) : Prop :=
  ∀ c : Dev Cert.KernelIdeal.nD,
    (Cert.Pre_even_partition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_even_partition [hPre_even_partition : Cert.Pre_even_partition.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_even_partition.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_even_partition [hKernelIdeal : Cert.KernelIdeal.Facts] [hPre_even_partition : Cert.Pre_even_partition.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_even_partition m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_even_partition [hReferenceIdeal : Cert.ReferenceIdeal.Facts] [hPre_even_partition : Cert.Pre_even_partition.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_even_partition m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_even_partition [hKernelIdeal : Cert.KernelIdeal.Facts] [hReferenceIdeal : Cert.ReferenceIdeal.Facts] [hPre_even_partition : Cert.Pre_even_partition.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_even_partition m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_even_partition : Cert.Pre_even_partition.Facts),
    quiescent_Kernel (hKernel := hKernel)
    ∧ quiescent_KernelIdeal (hKernelIdeal := hKernelIdeal)
    ∧ quiescent_KernelIdeal_pre_even_partition (hKernelIdeal := hKernelIdeal) (hPre_even_partition := hPre_even_partition)
    ∧ quiescent_ReferenceIdeal (hReferenceIdeal := hReferenceIdeal)
    ∧ quiescent_ReferenceIdeal_pre_even_partition (hReferenceIdeal := hReferenceIdeal) (hPre_even_partition := hPre_even_partition)
    ∧ preserves_Kernel_KernelIdeal
    ∧ algebraic_KernelIdeal_ReferenceIdeal_pre_even_partition (hKernelIdeal := hKernelIdeal) (hReferenceIdeal := hReferenceIdeal) (hPre_even_partition := hPre_even_partition)
-- ==== Pre_even_partition.lean ====
abbrev S1600000x16 : Shape := ⟨2, ![1600000, 16]⟩
abbrev S1000 : Shape := ⟨1, ![1000]⟩
abbrev S999 : Shape := ⟨1, ![999]⟩
abbrev S_ : Shape := ⟨0, ![]⟩

class Facts : Prop where
  slices_S1000_S999_0 : S1000.Slices ![0] S999
  bcast_S_S999 : S_.BroadcastsInDim S999 (![] : Fin 0 → Fin S999.rank)
  reducesTo_S999_S_d0 : S999.ReducesTo [0] S_
  h_S_ : 0 < S_.numel

variable [Facts]

def fn {F : FTy → Type} [FloatOps F] (main_arg0 : FVec F S1600000x16 .f32) (main_arg1 : IVec S1000 32) (main_arg2 : IVec S1000 32) : IVec S_ 1 :=
  let main_v0 : IVec S999 32 := (extractStridedSlice S999 ![0] · slices_S1000_S999_0) main_arg2
  let main_c : IVec S_ 32 := constantI S_ 32 1600#32
  let main_v1 : IVec S999 32 := broadcastInDim S999 ![] bcast_S_S999 main_c
  let main_v2 : IVec S999 1 := cmpi .eq main_v0 main_v1
  let main_c_0 : IVec S_ 1 := constantI S_ 1 1#1
  let main_v3 : IVec S_ 1 := (fun x v => Host.reduce IntOp.andi x v reducesTo_S999_S_d0 h_S_) main_v2 main_c_0
  main_v3
-- ==== Kernel.lean ====
abbrev S1600000x16 : Shape := ⟨2, ![1600000, 16]⟩
abbrev S1000 : Shape := ⟨1, ![1000]⟩
abbrev S25600000 : Shape := ⟨1, ![25600000]⟩
abbrev S16000 : Shape := ⟨1, ![16000]⟩
abbrev S25600 : Shape := ⟨1, ![25600]⟩
abbrev S16 : Shape := ⟨1, ![16]⟩
abbrev S_ : Shape := ⟨0, ![]⟩
abbrev S1000x16 : Shape := ⟨2, ![1000, 16]⟩

abbrev nBuf : Table → Nat
  | .hbm => 6
  | .local .scVector .vmem => 2
  | _ => 0

abbrev bufTy : (tb : Table) → Fin (nBuf tb) → BufTy
  | .hbm, ⟨0, _⟩ => ⟨S1600000x16, .f32⟩
  | .hbm, ⟨1, _⟩ => ⟨S1000, .i32⟩
  | .hbm, ⟨2, _⟩ => ⟨S1000, .i32⟩
  | .hbm, ⟨3, _⟩ => ⟨S25600000, .f32⟩
  | .hbm, ⟨4, _⟩ => ⟨S16000, .f32⟩
  | .hbm, ⟨5, _⟩ => ⟨S1000x16, .f32⟩
  | .local .scVector .vmem, ⟨0, _⟩ => ⟨S25600, .f32⟩
  | .local .scVector .vmem, ⟨1, _⟩ => ⟨S16, .f32⟩
  | _, _ => ⟨S1600000x16, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v0_scv : Ref sig .scVector := ⟨.hbm, 3, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c32_i32 : BitVec 32 := 32#32
  let v2 : BitVec 32 := Scalar.addi c0_i32_0 c32_i32
  let c1_i32 : BitVec 32 := 1#32
  ⟨c0_i32_0, v2, c1_i32⟩
def k0_cond1 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_2 : BitVec 32 := 32#32
  let c0_i32_0 : BitVec 32 := 0#32
  let c1_i32 : BitVec 32 := 1#32
  let arg6 : BitVec 32 := Scf.iv c0_i32_0 c1_i32 k0_t1
  let v4 : BitVec 32 := Scalar.muli c32_i32_2 arg6
  let v5 : BitVec 32 := Scalar.addi v1 v4
  let c1000_i32 : BitVec 32 := 1000#32
  let v6 : BitVec 1 := Scalar.cmpi .slt v5 c1000_i32
  let v7 : BitVec 32 := Scalar.extui v6
  let c0_i32_3 : BitVec 32 := 0#32
  let v8 : BitVec 1 := Scalar.cmpi .ne v7 c0_i32_3
  v8

def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_2 : BitVec 32 := 32#32
  let c0_i32_0 : BitVec 32 := 0#32
  let c1_i32 : BitVec 32 := 1#32
  let arg6 : BitVec 32 := Scf.iv c0_i32_0 c1_i32 k0_t1
  let v4 : BitVec 32 := Scalar.muli c32_i32_2 arg6
  let v5 : BitVec 32 := Scalar.addi v1 v4
  let c1600_i32 : BitVec 32 := 1600#32
  let v9 : BitVec 32 := Scalar.muli v5 c1600_i32
  let c16_i32 : BitVec 32 := 16#32
  let v10 : BitVec 32 := Scalar.muli v9 c16_i32
  ![v10.toNat]
@[reducible] def k0_t2_loop : Scf.Loop 32 :=
  let c0_i32_5 : BitVec 32 := 0#32
  let c100_i32 : BitVec 32 := 100#32
  let v12 : BitVec 32 := Scalar.addi c0_i32_5 c100_i32
  let c1_i32_6 : BitVec 32 := 1#32
  ⟨c0_i32_5, v12, c1_i32_6⟩
def k0_off2 (k0_t2 : Fin k0_t2_loop.trips) (c0_i32_9 : BitVec 32) : Fin 1 → Nat :=
  let c0_i32_5 : BitVec 32 := 0#32
  let c1_i32_6 : BitVec 32 := 1#32
  let arg8 : BitVec 32 := Scf.iv c0_i32_5 c1_i32_6 k0_t2
  let c256_i32 : BitVec 32 := 256#32
  let v21 : BitVec 32 := Scalar.muli arg8 c256_i32
  let v22 : BitVec 32 := Scalar.addi v21 c0_i32_9
  let v23 : Index := Scalar.indexCast v22
  ![v23.toNat]
def k0_off3 (k0_t2 : Fin k0_t2_loop.trips) (c0_i32_9 : BitVec 32) (c16_i32_10 : BitVec 32) : Fin 1 → Nat :=
  let c0_i32_5 : BitVec 32 := 0#32
  let c1_i32_6 : BitVec 32 := 1#32
  let arg8 : BitVec 32 := Scf.iv c0_i32_5 c1_i32_6 k0_t2
  let c256_i32 : BitVec 32 := 256#32
  let v21 : BitVec 32 := Scalar.muli arg8 c256_i32
  let v22 : BitVec 32 := Scalar.addi v21 c0_i32_9
  let v27 : BitVec 32 := Scalar.addi v22 c16_i32_10
  let v28 : Index := Scalar.indexCast v27
  ![v28.toNat]
def k0_off4 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_2 : BitVec 32 := 32#32
  let c0_i32_0 : BitVec 32 := 0#32
  let c1_i32 : BitVec 32 := 1#32
  let arg6 : BitVec 32 := Scf.iv c0_i32_0 c1_i32 k0_t1
  let v4 : BitVec 32 := Scalar.muli c32_i32_2 arg6
  let v5 : BitVec 32 := Scalar.addi v1 v4
  let c16_i32_8 : BitVec 32 := 16#32
  let v20 : BitVec 32 := Scalar.muli v5 c16_i32_8
  ![v20.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1600000x16 : Shape := ⟨2, ![1600000, 16]⟩
abbrev S1000 : Shape := ⟨1, ![1000]⟩
abbrev S1 : Shape := ⟨1, ![1]⟩
abbrev S999 : Shape := ⟨1, ![999]⟩
abbrev S_ : Shape := ⟨0, ![]⟩
abbrev S1600000 : Shape := ⟨1, ![1600000]⟩
abbrev S1000x1 : Shape := ⟨2, ![1000, 1]⟩
abbrev S1600000x1 : Shape := ⟨2, ![1600000, 1]⟩
abbrev S1x1 : Shape := ⟨2, ![1, 1]⟩
abbrev S1000x16 : Shape := ⟨2, ![1000, 16]⟩

abbrev nBuf : Space → Nat
  | .hbm => 59
  | .vmem => 0
  | .smem => 0
  | _ => 0

abbrev bufTy : (tb : Table) → Fin (tcTables nBuf tb) → BufTy
  | .hbm, ⟨0, _⟩ => ⟨S1600000x16, .f32⟩
  | .hbm, ⟨1, _⟩ => ⟨S1000, .i32⟩
  | .hbm, ⟨2, _⟩ => ⟨S1000, .i32⟩
  | .hbm, ⟨3, _⟩ => ⟨S1000, .i32⟩
  | .hbm, ⟨4, _⟩ => ⟨S1, .i32⟩
  | .hbm, ⟨5, _⟩ => ⟨S999, .i32⟩
  | .hbm, ⟨6, _⟩ => ⟨S1000, .i32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1000, .i32⟩
  | .hbm, ⟨11, _⟩ => ⟨S_, .i32⟩
  | .hbm, ⟨12, _⟩ => ⟨S_, .i32⟩
  | .hbm, ⟨13, _⟩ => ⟨S1000, .i32⟩
  | .hbm, ⟨14, _⟩ => ⟨S_, .i32⟩
  | .hbm, ⟨15, _⟩ => ⟨S1600000, .i32⟩
  | .hbm, ⟨16, _⟩ => ⟨S_, .i32⟩
  | .hbm, ⟨17, _⟩ => ⟨S1000, .i32⟩
  | .hbm, ⟨18, _⟩ => ⟨S1000, .i1⟩
  | .hbm, ⟨19, _⟩ => ⟨S_, .i32⟩
  | .hbm, ⟨20, _⟩ => ⟨S1000, .i32⟩
  | .hbm, ⟨21, _⟩ => ⟨S1000, .i32⟩
  | .hbm, ⟨22, _⟩ => ⟨S1000, .i32⟩
  | .hbm, ⟨23, _⟩ => ⟨S1000x1, .i32⟩
  | .hbm, ⟨24, _⟩ => ⟨S_, .i32⟩
  | .hbm, ⟨25, _⟩ => ⟨S1000, .i32⟩
  | .hbm, ⟨26, _⟩ => ⟨S1600000, .i32⟩
  | .hbm, ⟨27, _⟩ => ⟨S_, .i32⟩
  | .hbm, ⟨28, _⟩ => ⟨S_, .i32⟩
  | .hbm, ⟨29, _⟩ => ⟨S1600000, .i32⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1, .i32⟩
  | .hbm, ⟨42, _⟩ => ⟨S_, .i32⟩
  | .hbm, ⟨43, _⟩ => ⟨S1600000x1, .i32⟩
  | .hbm, ⟨44, _⟩ => ⟨S1600000x1, .i1⟩
  | .hbm, ⟨45, _⟩ => ⟨S1x1, .i32⟩
  | .hbm, ⟨46, _⟩ => ⟨S1600000x1, .i32⟩
  | .hbm, ⟨47, _⟩ => ⟨S1600000x1, .i1⟩
  | .hbm, ⟨48, _⟩ => ⟨S1600000x1, .i1⟩
  | .hbm, ⟨49, _⟩ => ⟨S_, .i1⟩
  | .hbm, ⟨50, _⟩ => ⟨S1600000, .i1⟩
  | .hbm, ⟨51, _⟩ => ⟨S1600000, .i32⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S_, .f32⟩
  | .hbm, ⟨56, _⟩ => ⟨S1000x16, .f32⟩
  | .hbm, ⟨57, _⟩ => ⟨S1600000x1, .i32⟩
  | .hbm, ⟨58, _⟩ => ⟨S1000x16, .f32⟩
  | _, _ => ⟨S1600000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_call1_call0_c : Ref sig .tc := ⟨.hbm, 11, rfl⟩
abbrev main_call1_call0_v0 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_c_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_call2_call0_c : Ref sig .tc := ⟨.hbm, 27, rfl⟩
abbrev main_call2_call0_v0 : Ref sig .tc := ⟨.hbm, 28, rfl⟩
abbrev main_v14 : Ref sig .tc := ⟨.hbm, 29, rfl⟩
abbrev main_c_5 : Ref sig .tc := ⟨.hbm, 30, rfl⟩
abbrev main_v15 : Ref sig .tc := ⟨.hbm, 31, rfl⟩
abbrev main_v16 : Ref sig .tc := ⟨.hbm, 32, rfl⟩
abbrev main_call3_c : Ref sig .tc := ⟨.hbm, 33, rfl⟩
abbrev main_call3_v0 : Ref sig .tc := ⟨.hbm, 34, rfl⟩
abbrev main_call3_v1 : Ref sig .tc := ⟨.hbm, 35, rfl⟩
abbrev main_call3_c_0 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_call3_v5 : Ref sig .tc := ⟨.hbm, 40, rfl⟩
abbrev main_call3_c_1 : Ref sig .tc := ⟨.hbm, 41, rfl⟩
abbrev main_call3_c_2 : Ref sig .tc := ⟨.hbm, 42, rfl⟩
abbrev main_call3_v6 : Ref sig .tc := ⟨.hbm, 43, rfl⟩
abbrev main_call3_v7 : Ref sig .tc := ⟨.hbm, 44, rfl⟩
abbrev main_call3_v8 : Ref sig .tc := ⟨.hbm, 45, rfl⟩
abbrev main_call3_v9 : Ref sig .tc := ⟨.hbm, 46, rfl⟩
abbrev main_call3_v10 : Ref sig .tc := ⟨.hbm, 47, rfl⟩
abbrev main_call3_v11 : Ref sig .tc := ⟨.hbm, 48, rfl⟩
abbrev main_call3_c_3 : Ref sig .tc := ⟨.hbm, 49, rfl⟩
abbrev main_call3_v12 : Ref sig .tc := ⟨.hbm, 50, rfl⟩
abbrev main_call3_v13 : Ref sig .tc := ⟨.hbm, 51, rfl⟩
abbrev main_call3_c_4 : Ref sig .tc := ⟨.hbm, 52, rfl⟩
abbrev main_call3_v14 : Ref sig .tc := ⟨.hbm, 53, rfl⟩
abbrev main_v17 : Ref sig .tc := ⟨.hbm, 54, rfl⟩
abbrev main_cst : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩

abbrev nD : Nat := 1
abbrev τ : Topo := Topo.v7x

variable {F : FTy → Type} [FloatOps F]
-- ==== Proof.IdealBlock.lean ====
/-
  What one staged block of the kernel becomes. A block is 25600 consecutive elements, 1600 rows of sixteen. The kernel
  keeps four accumulators of sixteen lanes; trip `k` of its inner loop adds rows `16 k`, `16 k + 4`, `16 k + 8`,
  `16 k + 12` to the first of them, and the rows after each of these to the others. After 100 trips the four are added
  in pairs. The float values are arbitrary here.
-/
module

public import proofs.«01_k».proof.Defs
public import proofs.«01_k».proof.Proof.Gen.KernelIdeal
public import proofs.«01_k».proof.Proof.Gen.KernelIdeal.Skeleton
public import Idealize.ShloMosaic.Lib.VecWindow
public import Idealize.ShloMosaic.Lib.Pipeline.Value
public import Idealize.ShloMosaic.Lib.ValueIdx

@[expose] public section

noncomputable section

namespace Cert.Proof.SegIdeal

open Cert.KernelIdeal Cert.KernelIdeal.Gen
open Idealize.ShloMosaic Idealize.ShloMosaic.ValueIdx

variable {F : FTy → Type} [FloatOps F]

/-- Row `n` of a block: its sixteen elements from position `16 n` on (positions taken below 25600). -/
def row (b : S25600.Idx → F .f32) (n : ℕ) : FVec F S16 .f32 :=
  fun l => b (ix1 ⟨(16 * n + (l 0).val) % 25600, Nat.mod_lt _ (by decide)⟩)

/-- Rows `n`, `n + 4`, `n + 8` and `n + 12` added to an accumulator, in this order. -/
def addRows (b : S25600.Idx → F .f32) (n : ℕ) (a : FVec F S16 .f32) : FVec F S16 .f32 :=
  addf (addf (addf (addf a (row b n)) (row b (n + 4))) (row b (n + 8))) (row b (n + 12))

/-- The four accumulators before trip `k` of the inner loop. -/
def accs (b : S25600.Idx → F .f32) : ℕ → FVec F S16 .f32 × FVec F S16 .f32 × FVec F S16 .f32 × FVec F S16 .f32
  | 0 => (k0_pay1, k0_pay1, k0_pay1, k0_pay1)
  | k + 1 => (addRows b (16 * k) (accs b k).1, addRows b (16 * k + 1) (accs b k).2.1,
      addRows b (16 * k + 2) (accs b k).2.2.1, addRows b (16 * k + 3) (accs b k).2.2.2)

/-- What the kernel writes out for a block: the four accumulators after 100 trips, added in pairs. -/
def blockSum (b : S25600.Idx → F .f32) : FVec F S16 .f32 :=
  addf (addf (accs b 100).1 (accs b 100).2.1) (addf (accs b 100).2.2.1 (accs b 100).2.2.2)

/-- The value stored for a block is `blockSum`. -/
theorem pay6_accs (b : S25600.Idx → F .f32) :
    k0_pay6 (accs b 100).1 (accs b 100).2.1 (accs b 100).2.2.1 (accs b 100).2.2.2 = blockSum b :=
  shapeCast_self _ _

/-- A load of sixteen elements of the block's buffer from position `16 n` on reads row `n`. -/
theorem load_row (f : (Memref.whole cc0_scratch0 : Memref sig .scVector .vmem S25600 .f32).view.ty.Contents (Elt F))
    {off : Fin 1 → ℕ} (inb : ∀ a, off a + S16.size a ≤ S25600.size a) (n : ℕ) (h : off = ![16 * n]) (hn : n < 1600) :
    (Memref.whole cc0_scratch0 : Memref sig .scVector .vmem S25600 .f32).view.readAt (Elt F)
        (Rect.unit (s := S25600) off S16.size inb).toLoadRect f = row (F := F) f n := by
  subst h
  funext l
  show f _ = f _
  refine congrArg f (funext fun a => Fin.ext ?_)
  match a with
  | ⟨0, _⟩ =>
    have hl : (l 0).val < 16 := (l 0).isLt
    show 16 * n + 1 * (l 0).val = (16 * n + (l 0).val) % 25600
    omega

/-- Block `g` of the flat edges: 25600 elements from `25600 g` on (positions taken below 25600000). -/
def block (x : S25600000.Idx → F .f32) (g : ℕ) : S25600.Idx → F .f32 :=
  fun y => x (ix1 ⟨(25600 * g + (y 0).val) % 25600000, Nat.mod_lt _ (by decide)⟩)

/-- What the kernel leaves in the flat result: element `16 g + l` is lane `l` of block `g`'s sum. -/
def segOut (x : S25600000.Idx → F .f32) : S16000.Idx → F .f32 :=
  fun y => blockSum (block x ((y 0).val / 16)) (ix1 ⟨(y 0).val % 16, Nat.mod_lt _ (by decide)⟩)

end Cert.Proof.SegIdeal

end
-- ==== Proof.IdealTile.lean ====
/-
  One vector subcore's task. Subcore `s` of SparseCore `c` is worker `w = 2 s + c` of 32; in trip `j` of its loop it
  takes block `w + 32 j`, if there is one: the block is copied in, summed (IdealBlock.lean), and the sixteen sums are
  copied out. The worker holds a share of the flat edges and, of the flat result, the elements of its own blocks. Before
  trip `j` those of the blocks below `w + 32 j` are at the kernel's sums, the others as they were.
-/
module

public import proofs.«01_k».proof.Proof.IdealBlock
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ShareLeaves

@[expose] public section

noncomputable section

namespace Cert.Proof.SegIdeal

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions on its semaphores and shared tables. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev xLoc (d : Dev nD) : Loc nD τ sig := (SparseCore.T d).loc main_v0
abbrev oLoc (d : Dev nD) : Loc nD τ sig := (SparseCore.T d).loc main_v1

local notation "xV" => (Memref.whole Cert.KernelIdeal.main_v0_scv : Memref Cert.KernelIdeal.sig Kind.scVector Space.hbm Cert.KernelIdeal.S25600000 EltTy.f32)
local notation "oV" => (Memref.whole Cert.KernelIdeal.main_v1_scv : Memref Cert.KernelIdeal.sig Kind.scVector Space.hbm Cert.KernelIdeal.S16000 EltTy.f32)
local notation "sV" => (Memref.whole Cert.KernelIdeal.cc0_scratch0 : Memref Cert.KernelIdeal.sig Kind.scVector Space.vmem Cert.KernelIdeal.S25600 EltTy.f32)
local notation "rV" => (Memref.whole Cert.KernelIdeal.cc0_scratch1 : Memref Cert.KernelIdeal.sig Kind.scVector Space.vmem Cert.KernelIdeal.S16 EltTy.f32)

/-! ## The elements of a worker's blocks, and what they hold along the loop -/

/-- The flat result's elements that belong to the blocks of worker `w`: blocks `w`, `w + 32`, … . -/
def tileSet (w : ℕ) : Finset S16000.Idx := Finset.univ.filter fun y => (y 0).val / 16 % 32 = w

/-- The flat result with the blocks below `n` at the kernel's sums and the others at `o`. -/
def upTo [FloatOps F] (x : S25600000.Idx → F .f32) (o : S16000.Idx → F .f32) (n : ℕ) : S16000.Idx → F .f32 :=
  fun y => if (y 0).val / 16 < n then segOut x y else o y

/-- An index of the flat result lies in one of 1000 blocks. -/
theorem blk_lt (y : S16000.Idx) : (y 0).val / 16 < 1000 := by
  have : (y 0).val < 16000 := (y 0).isLt
  omega

section Tile

variable [FloatOps F] (x : S25600000.Idx → F .f32) (o : S16000.Idx → F .f32)

/-- Before the first trip a worker's elements are as they were. -/
theorem upTo_start {w : ℕ} : ∀ y ∈ tileSet w, upTo x o w y = o y := fun y hy => by
  have := (Finset.mem_filter.1 hy).2
  exact if_neg (by omega)

/-- After the last trip every block is at its sums. -/
theorem upTo_end (w : ℕ) (y : S16000.Idx) : upTo x o (w + 32 * 32) y = segOut x y :=
  if_pos (by have := blk_lt y; omega)

/-- A trip that has no block changes nothing. -/
theorem upTo_skip {n : ℕ} (h : 1000 ≤ n) : upTo x o n = upTo x o (n + 32) := by
  funext y
  have := blk_lt y
  rw [upTo, if_pos (by omega), upTo, if_pos (by omega)]

variable (d : Dev nD) (L : grid0.Coords)

abbrev cV (L : grid0.Coords) : Fin τ.nSC := (L 0).castLE hcore0
abbrev jV (L : grid0.Coords) : Fin τ.nSub := (L 1).castLE hsub0

/-- The worker's number. -/
abbrev wk (L : grid0.Coords) : ℕ := 2 * (L 1).val + (L 0).val

/-- The result rows of trip `j`, as the task addresses them. -/
abbrev oRow (j : Fin k0_t1_loop.trips) (h : k0_cond1 L j = 1#1) : Memref sig .scVector .hbm S16 .f32 :=
  (oV).slice (Rect.unit (s := S16000) (k0_off4 L j) S16.size (k0_off4_inb L j h)) (fun _ => rfl)
/-- The edges of trip `j`'s block, as the task addresses them. -/
abbrev xBlk (j : Fin k0_t1_loop.trips) (h : k0_cond1 L j = 1#1) : Memref sig .scVector .hbm S25600 .f32 :=
  (xV).slice (Rect.unit (s := S25600000) (k0_off1 L j) S25600.size (k0_off1_inb L j h)) (fun _ => rfl)

omit [FloatOps F] in
/-- Trip `j` has a block exactly when the block's number is below 1000. -/
theorem cond_iff : ∀ (L : grid0.Coords) (j : Fin k0_t1_loop.trips), k0_cond1 L j = 1#1 ↔ wk L + 32 * j.val < 1000 := by
  decide +kernel

omit [FloatOps F] in
/-- Trip `j`'s result elements are those of block `w + 32 j`. -/
theorem mem_oRow (j : Fin k0_t1_loop.trips) (h : k0_cond1 L j = 1#1) (y : S16000.Idx) :
    y ∈ (oRow L j h).view.set ↔ (y 0).val / 16 = wk L + 32 * j.val := by
  have hs : (oRow L j h).view.set = (Rect.unit (s := S16000) (k0_off4 L j) S16.size (k0_off4_inb L j h)).set := View.set_slice_whole _ _
  rw [hs, Rect.mem_set_unit, k0_off4_eq]
  constructor
  · intro hy
    have h0 := hy 0
    have e1 : 32 * (L 1).val + 16 * (L 0).val + 512 * j.val ≤ (y 0).val := h0.1
    have e2 : (y 0).val < 32 * (L 1).val + 16 * (L 0).val + 512 * j.val + 16 := h0.2
    show _ = 2 * (L 1).val + (L 0).val + 32 * j.val
    omega
  · intro e a
    have e : (y 0).val / 16 = 2 * (L 1).val + (L 0).val + 32 * j.val := e
    match a with
    | ⟨0, _⟩ =>
      show 32 * (L 1).val + 16 * (L 0).val + 512 * j.val ≤ (y 0).val ∧ (y 0).val < 32 * (L 1).val + 16 * (L 0).val + 512 * j.val + 16
      omega

omit [FloatOps F] in
theorem wk_lt : wk L < 32 := by
  have h0 : (L 0).val < 2 := (L 0).isLt
  have h1 : (L 1).val < 16 := (L 1).isLt
  show 2 * (L 1).val + (L 0).val < 32
  omega

omit [FloatOps F] in
/-- Trip `j`'s result elements are among the worker's. -/
theorem oRow_sub (j : Fin k0_t1_loop.trips) (h : k0_cond1 L j = 1#1) : (oRow L j h).view.set ⊆ tileSet (wk L) := fun y hy => by
  have e := (mem_oRow L j h y).1 hy
  have hw := wk_lt L
  exact Finset.mem_filter.2 ⟨Finset.mem_univ _, by rw [e]; omega⟩

/-- What the copy-in brings is block `w + 32 j` of the edges. -/
theorem read_xBlk (j : Fin k0_t1_loop.trips) (h : k0_cond1 L j = 1#1) :
    (xBlk L j h).view.read (Elt F) x = block x (wk L + 32 * j.val) := by
  funext y
  show x _ = x _
  refine congrArg x (funext fun a => Fin.ext ?_)
  match a with
  | ⟨0, _⟩ =>
    have hb := (cond_iff L j).1 h
    have hy : (y 0).val < 25600 := (y 0).isLt
    show k0_off1 L j 0 + 1 * (y 0).val = (25600 * (2 * (L 1).val + (L 0).val + 32 * j.val) + (y 0).val) % 25600000
    rw [k0_off1_eq]
    show 51200 * (L 1).val + 25600 * (L 0).val + 819200 * j.val + 1 * (y 0).val = _
    have hb : 2 * (L 1).val + (L 0).val + 32 * j.val < 1000 := hb
    omega

/-- What the copy-out leaves: on the block's elements the sixteen values copied, lane by lane. -/
theorem oRow_written (j : Fin k0_t1_loop.trips) (h : k0_cond1 L j = 1#1) (f : S16000.Idx → F .f32) (w : FVec F S16 .f32) :
    ∀ y ∈ (oRow L j h).view.set, (oRow L j h).view.writes (Elt F) f [⟨Rect.whole S16, w⟩] y = w (ix1 ⟨(y 0).val % 16, Nat.mod_lt _ (by decide)⟩) := by
  intro y hy
  have hg := (mem_oRow L j h y).1 hy
  have e : (oRow L j h).view.emb (ix1 ⟨(y 0).val % 16, Nat.mod_lt _ (by decide)⟩) = y := by
    refine funext fun a => Fin.ext ?_
    match a with
    | ⟨0, _⟩ =>
      show k0_off4 L j 0 + 1 * ((y 0).val % 16) = (y 0).val
      rw [k0_off4_eq]
      have hg : (y 0).val / 16 = 2 * (L 1).val + (L 0).val + 32 * j.val := hg
      show 32 * (L 1).val + 16 * (L 0).val + 512 * j.val + 1 * ((y 0).val % 16) = _
      omega
  have hr := congrFun (View.read_writes_whole (Val := Elt F) (oRow L j h).view f w) (ix1 ⟨(y 0).val % 16, Nat.mod_lt _ (by decide)⟩)
  rw [View.read_apply, e, cast_eq] at hr
  exact hr

/-! ## One trip of the inner loop -/

/-- The first load of a group of four rows reads row `16 k + 4 r`. -/
theorem load_off2 (b : S25600.Idx → F .f32) (k : Fin k0_t2_loop.trips) (r : Fin 4) (n : ℕ) (hn : 16 * k.val + 4 * r.val = n)
    (inb : ∀ a, k0_off2 k (BitVec.ofNat 32 (64 * r.val)) a + S16.size a ≤ S25600.size a) :
    (sV).view.readAt (Elt F) (Rect.unit (s := S25600) (k0_off2 k (BitVec.ofNat 32 (64 * r.val))) S16.size inb).toLoadRect b = row (F := F) b n := by
  have hk : k.val < 100 := k.isLt
  exact load_row b inb n ((k0_off2_eq k r).trans (by rw [← hn]; congr 1; omega)) (by omega)

/-- The other three loads of a group of four rows read rows `16 k + 4 r₁ + r₂ + 1`. -/
theorem load_off3 (b : S25600.Idx → F .f32) (k : Fin k0_t2_loop.trips) (r₁ : Fin 4) (r₂ : Fin 3) (n : ℕ)
    (hn : 16 * k.val + (r₂.val + 1) + 4 * r₁.val = n)
    (inb : ∀ a, k0_off3 k (BitVec.ofNat 32 (64 * r₁.val)) (BitVec.ofNat 32 (16 + 16 * r₂.val)) a + S16.size a ≤ S25600.size a) :
    (sV).view.readAt (Elt F) (Rect.unit (s := S25600) (k0_off3 k (BitVec.ofNat 32 (64 * r₁.val)) (BitVec.ofNat 32 (16 + 16 * r₂.val))) S16.size inb).toLoadRect b
      = row (F := F) b n := by
  have hk : k.val < 100 := k.isLt
  exact load_row b inb n ((k0_off3_eq k r₁ r₂).trans (by rw [← hn]; congr 1; omega)) (by omega)

/-- Four values added in order to an accumulator are `addRows`, when they are its four rows. -/
theorem addRows_of {b : S25600.Idx → F .f32} {n : ℕ} {a v₀ v₁ v₂ v₃ : FVec F S16 .f32} (h₀ : v₀ = row b n) (h₁ : v₁ = row b (n + 4))
    (h₂ : v₂ = row b (n + 8)) (h₃ : v₃ = row b (n + 12)) {a' : FVec F S16 .f32}
    (h : a' = addf (addf (addf (addf a (shapeCast S16 v₀ shapeCasts_S16_S16)) (shapeCast S16 v₁ shapeCasts_S16_S16))
      (shapeCast S16 v₂ shapeCasts_S16_S16)) (shapeCast S16 v₃ shapeCasts_S16_S16)) : a' = addRows b n a := by
  rw [h, h₀, h₁, h₂, h₃]
  simp only [shapeCast_self]
  rfl

/-! ## The subcore's own cells and buffers -/

abbrev c0cell (d : Dev nD) (c : Fin τ.nSC) (i : Fin τ.nSub) : GSem nD τ sig := (V d c i, .dma cc0_scoped0.sem)
abbrev c1cell (d : Dev nD) (c : Fin τ.nSC) (i : Fin τ.nSub) : GSem nD τ sig := (V d c i, .dma cc0_scoped1.sem)

omit [FloatOps F] in
/-- The two transfers' cells are among the subcore's own: they are them, at zero, and the rest. -/
theorem ownSems0_V :
    (ownSems0 (V d (cV L) (jV L)) : sProp 𝕄)
      = iprop(semVal (c0cell d (cV L) (jV L)) 0 ∗ semVal (c1cell d (cV L) (jV L)) 0
          ∗ bigSep (((ownCells (V d (cV L) (jV L))).erase (c0cell d (cV L) (jV L))).erase (c1cell d (cV L) (jV L))) fun g => semVal g 0) := by
  unfold SparseCore.Cfg.ownSems0
  rw [SparseCore.bigSep_erase' ((mem_ownCells (g := c0cell d (cV L) (jV L))).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d (cV L) (jV L))).mpr ⟨rfl, by
      show (SemLoc.dma cc0_scoped1.sem : SemLoc sig).isScoped .scVector = true; decide⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The loops -/

/-- The inner loop's invariant: the staged block in its buffer, the accumulators at their values before trip `k`. -/
def innerInv (b : S25600.Idx → F .f32) (k : ℕ) (a : FVec F S16 .f32 × FVec F S16 .f32 × FVec F S16 .f32 × FVec F S16 .f32) : sProp 𝕄 :=
  iprop(⌜a = accs b k⌝ ∗ ((sV).view.loc (V d (cV L) (jV L)) ↦{fullShare} b))

/-- The outer loop's invariant: the share of the edges, the worker's result elements up to block `w + 32 j`, both scratch
    buffers at some contents, both cells at zero, and what the subcore owes. -/
def outerInv (q : PosShare TreeShare) (O : CellTallies nD τ sig (HIx 1)) (W : Waits sig (HIx 1)) (j : ℕ) (_ : BitVec 32) : sProp 𝕄 :=
  iprop(Transfers.MayWaits (V d (cV L) (jV L)) (default : HIx 1) O
    ∗ ((xV).view.loc (V d (cV L) (jV L)) ↦{q} x)
    ∗ ((oV).view.loc (V d (cV L) (jV L)) ↦[tileSet (wk L)]{fullShare} upTo x o (wk L + 32 * j))
    ∗ (∃ f, (sV).view.loc (V d (cV L) (jV L)) ↦{fullShare} f)
    ∗ (∃ f, (rV).view.loc (V d (cV L) (jV L)) ↦{fullShare} f)
    ∗ semVal (c0cell d (cV L) (jV L)) 0 ∗ semVal (c1cell d (cV L) (jV L)) 0
    ∗ ∃ W', ⌜∀ p ∈ W', p ∈ W ∨ p.2 = none⌝ ∗ owes (V d (cV L) (jV L)) O W')

omit [FloatOps F] in
/-- A wait on a task's own transfer stays within what the task may record. -/
theorem waits_insert {W W' : Waits sig (HIx 1)} (c : SemLoc sig) (h : ∀ p ∈ W', p ∈ W ∨ p.2 = none) :
    ∀ p ∈ insert (c, (default : HIx 1)) W', p ∈ W ∨ p.2 = none := fun p hp =>
  (Finset.mem_insert.1 hp).elim (fun e => Or.inr (by rw [e]; rfl)) (h p)

/-- A worker's share of the flat edges. -/
abbrev xPts (d : Dev nD) (q : PosShare TreeShare) : sProp 𝕄 := xLoc d ↦{q} x
/-- The result elements of worker `w`, holding `f`. -/
abbrev oPts (d : Dev nD) (w : ℕ) (f : S16000.Idx → F .f32) : sProp 𝕄 := oLoc d ↦[tileSet w]{fullShare} f

set_option maxHeartbeats 4000000 in
theorem tile_body (hF : (K (F := F)).Facts) (q : PosShare TreeShare) (O : CellTallies nD τ sig (HIx 1)) (W : Waits sig (HIx 1)) (hO : ∀ g, O g none = 0) :
    iprop(levAts (K (F := F)).L (K (F := F)).lev ∗ emp
        ∗ (xPts x d q ∗ oPts d (wk L) o)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_kernel L xV (Memref.isWhole_whole _) oV (Memref.isWhole_whole _)
            sV (Memref.isWhole_whole _) rV (Memref.isWhole_whole _) cc0_scoped0 cc0_scoped1)
          fun _ => iprop((xPts x d q ∗ oPts d (wk L) (segOut x))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_kernel_eq_skeleton]; unfold cc0_sc_kernel_skel
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fs, Hs⟩, ⟨%fr, Hr⟩, Hbufs⟩, ⟨Hsem0, Hsem1, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_for (outerInv x o d L q O W) $$ [Hmw Hx Ho Hs Hr Hsem0 Hsem1 HO]
  case region =>
    intro j acc
    unfold outerInv
    iintro ⟨Hmw, Hx, Ho, ⟨%fs, Hs⟩, ⟨%fr, Hr⟩, Hsem0, Hsem1, %W', %hW', HO⟩
    by_cases k0_h1 : k0_cond1 L j = 1#1
    · ihave Hsp := (show iprop((oV).view.loc (V d (cV L) (jV L)) ↦[tileSet (wk L)]{fullShare} upTo x o (wk L + 32 * j.val))
          ⊢ (iprop(((oRow L j k0_h1).view.loc (V d (cV L) (jV L)) ↦[(oRow L j k0_h1).view.set]{fullShare} upTo x o (wk L + 32 * j.val))
            ∗ ((oV).view.loc (V d (cV L) (jV L)) ↦[tileSet (wk L) \ (oRow L j k0_h1).view.set]{fullShare} upTo x o (wk L + 32 * j.val))) : sProp 𝕄)
          from (pointsTo_split_subset (oRow_sub L j k0_h1)).1) $$ Ho
      icases Hsp with ⟨Ho, Hrest⟩
      sl_exec
      ihave Hs := (show ((sV).view.loc (V d (cV L) (jV L)) ↦{fullShare} View.write (Elt F) (sV).view fs (tile_body.sl.dma0 x L j k0_h1) Finset.univ : sProp 𝕄)
          ⊢ ((sV).view.loc (V d (cV L) (jV L)) ↦{fullShare} block x (wk L + 32 * j.val))
          from Entails.of_eq (by rw [View.write_whole_univ]; exact congrArg _ (read_xBlk x L j k0_h1))) $$ Hs
      sl_for (innerInv d L (block x (wk L + 32 * j.val))) $$ [Hs]
      case region =>
        intro k a
        unfold innerInv
        iintro ⟨%ha, Hs⟩
        obtain ⟨a0, a1, a2, a3⟩ := a
        sl_exec
        sl_step
        isplitr
        · ipureintro
          show (_, _, _, _) = (addRows _ (16 * k.val) (accs _ k.val).1, addRows _ (16 * k.val + 1) (accs _ k.val).2.1,
            addRows _ (16 * k.val + 2) (accs _ k.val).2.2.1, addRows _ (16 * k.val + 3) (accs _ k.val).2.2.2)
          rw [← ha]
          refine Prod.ext ?_ (Prod.ext ?_ (Prod.ext ?_ ?_))
          · exact addRows_of (load_off2 _ k 0 _ rfl _) (load_off2 _ k 1 _ rfl _) (load_off2 _ k 2 _ rfl _) (load_off2 _ k 3 _ rfl _) rfl
          · exact addRows_of (load_off3 _ k 0 0 _ rfl _) (load_off3 _ k 1 0 _ rfl _) (load_off3 _ k 2 0 _ rfl _) (load_off3 _ k 3 0 _ rfl _) rfl
          · exact addRows_of (load_off3 _ k 0 1 _ rfl _) (load_off3 _ k 1 1 _ rfl _) (load_off3 _ k 2 1 _ rfl _) (load_off3 _ k 3 1 _ rfl _) rfl
          · exact addRows_of (load_off3 _ k 0 2 _ rfl _) (load_off3 _ k 1 2 _ rfl _) (load_off3 _ k 2 2 _ rfl _) (load_off3 _ k 3 2 _ rfl _) rfl
        · iexact Hs
      · unfold innerInv
        isplitr
        · ipureintro; rfl
        · iexact Hs
      iintro %a HI
      unfold innerInv
      icases HI with ⟨%ha, Hs⟩
      obtain ⟨a0, a1, a2, a3⟩ := a
      sl_exec
      have hpay : tile_body.sl.dma2 d L fr a0 a1 a2 a3 = blockSum (block x (wk L + 32 * j.val)) := by
        show (rV).view.read (Elt F) ((rV).view.writes (Elt F) fr (tile_body.sl.Hr_1 a0 a1 a2 a3)) = _
        refine (View.read_writes_full (Val := Elt F) (rV).view fr _ (k0_pay6 a0 a1 a2 a3) []).trans ?_
        have ha : (a0, a1, a2, a3) = accs (block x (wk L + 32 * j.val)) 100 := ha
        rw [← pay6_accs, ← ha]
      rw [hpay]
      sl_step
      isplitl [Hmw]; · iexact Hmw
      isplitl [Hx]; · iexact Hx
      isplitl [Ho Hrest]
      · ihave Ho := (show ((oRow L j k0_h1).view.loc (V d (cV L) (jV L)) ↦[(oRow L j k0_h1).view.set]{fullShare}
              (oRow L j k0_h1).view.writes (Elt F) (upTo x o (wk L + 32 * j.val)) [⟨Rect.whole S16, blockSum (block x (wk L + 32 * j.val))⟩] : sProp 𝕄)
            ⊢ ((oV).view.loc (V d (cV L) (jV L)) ↦[(oRow L j k0_h1).view.set]{fullShare} upTo x o (wk L + 32 * (j.val + 1)))
            from Entails.of_eq (pointsTo_congr fun y hy => by
              rw [oRow_written L j k0_h1 _ _ y hy]
              have hg := (mem_oRow L j k0_h1 y).1 hy
              rw [upTo, if_pos (by omega), segOut, hg])) $$ Ho
        ihave Hrest := (show ((oV).view.loc (V d (cV L) (jV L)) ↦[tileSet (wk L) \ (oRow L j k0_h1).view.set]{fullShare} upTo x o (wk L + 32 * j.val) : sProp 𝕄)
            ⊢ ((oV).view.loc (V d (cV L) (jV L)) ↦[tileSet (wk L) \ (oRow L j k0_h1).view.set]{fullShare} upTo x o (wk L + 32 * (j.val + 1)))
            from Entails.of_eq (pointsTo_congr fun y hy => by
              have hm := Finset.mem_sdiff.1 hy
              have hne : ¬ (y 0).val / 16 = wk L + 32 * j.val := fun e => hm.2 ((mem_oRow L j k0_h1 y).2 e)
              have hw := (Finset.mem_filter.1 hm.1).2
              have hw' := wk_lt L
              by_cases hlt : (y 0).val / 16 < wk L + 32 * j.val
              · rw [upTo, if_pos hlt, upTo, if_pos (by omega)]
              · rw [upTo, if_neg hlt, upTo, if_neg (by omega)])) $$ Hrest
        iapply (show iprop(((oV).view.loc (V d (cV L) (jV L)) ↦[(oRow L j k0_h1).view.set]{fullShare} upTo x o (wk L + 32 * (j.val + 1)))
            ∗ ((oV).view.loc (V d (cV L) (jV L)) ↦[tileSet (wk L) \ (oRow L j k0_h1).view.set]{fullShare} upTo x o (wk L + 32 * (j.val + 1))))
          ⊢ ((oV).view.loc (V d (cV L) (jV L)) ↦[tileSet (wk L)]{fullShare} upTo x o (wk L + 32 * (j.val + 1)) : sProp 𝕄)
          from (pointsTo_split_subset (oRow_sub L j k0_h1)).2)
        isplitl [Ho]; · iexact Ho
        · iexact Hrest
      isplitl [Hs]; · iexists _; iexact Hs
      isplitl [Hr]; · iexists _; iexact Hr
      isplitl [Hsem0]; · iexact Hsem0
      isplitl [Hsem1]; · iexact Hsem1
      iexists (insert (SemLoc.dma cc0_scoped1.sem, default) (insert (SemLoc.dma cc0_scoped0.sem, default) W'))
      isplitr
      · ipureintro
        exact waits_insert _ (waits_insert _ hW')
      · iexact HO
    · sl_exec
      have hn : 1000 ≤ wk L + 32 * j.val := by
        have := mt (cond_iff L j).2 k0_h1
        omega
      sl_step
      isplitl [Hmw]; · iexact Hmw
      isplitl [Hx]; · iexact Hx
      isplitl [Ho]
      · iapply (Entails.of_eq (congrArg (fun f => (oPts d (wk L) f : sProp 𝕄)) (upTo_skip x o hn)))
        iexact Ho
      isplitl [Hs]; · iexists _; iexact Hs
      isplitl [Hr]; · iexists _; iexact Hr
      isplitl [Hsem0]; · iexact Hsem0
      isplitl [Hsem1]; · iexact Hsem1
      iexists W'
      isplitr
      · ipureintro; exact hW'
      · iexact HO
  · unfold outerInv
    isplitl [Hmw]; · iexact Hmw
    isplitl [Hx]; · iexact Hx
    isplitl [Ho]
    · iapply (Entails.of_eq (show (oPts d (wk L) o : sProp 𝕄) = oPts d (wk L) (upTo x o (wk L + 32 * 0)) from
        pointsTo_congr fun y hy => (upTo_start x o y hy).symm))
      iexact Ho
    isplitl [Hs]; · iexists _; iexact Hs
    isplitl [Hr]; · iexists _; iexact Hr
    isplitl [Hsem0]; · iexact Hsem0
    isplitl [Hsem1]; · iexact Hsem1
    iexists W
    isplitr
    · ipureintro; exact fun p hp => Or.inl hp
    · iexact HO
  iintro %acc HI
  unfold outerInv
  icases HI with ⟨-, Hx, Ho, ⟨%fs', Hs⟩, ⟨%fr', Hr⟩, Hsem0, Hsem1, %W', %hW', HO⟩
  sl_step
  isplitl [Hx Ho]
  · isplitl [Hx]; · iexact Hx
    · iapply (Entails.of_eq (show (oPts d (wk L) (upTo x o (wk L + 32 * 32)) : sProp 𝕄) = oPts d (wk L) (segOut x) from
        pointsTo_congr fun y _ => upTo_end x o (wk L) y))
      iexact Ho
  isplitl [Hs Hr Hbufs]
  · isplitl [Hs]; · iexists _; iexact Hs
    isplitl [Hr]; · iexists _; iexact Hr
    iexact Hbufs
  isplitl [Hsem0 Hsem1 Hsems]
  · isplitl [Hsem0]; · iexact Hsem0
    isplitl [Hsem1]; · iexact Hsem1
    iexact Hsems
  iexists W'
  isplitr
  · ipureintro; exact hW'
  · iexact HO

end Tile

end Cert.Proof.SegIdeal

end
-- ==== Proof.IdealRun.lean ====
/-
  The kernel's whole run. `@main` reshapes the edges to one flat array, starts the 32 tasks, and reshapes the flat
  result. The call hands SparseCore `c` a half share of the flat edges and the result elements of the blocks whose
  number is `c` modulo 2; that SparseCore hands its subcore `s` a sixteenth of its share and the elements of worker
  `2 s + c`. All come back, the result elements at the kernel's sums. So the run ends with the arguments unchanged,
  the result at the reshaped sums, and every semaphore counter at zero.
-/
module

public import proofs.«01_k».proof.Proof.IdealTile

@[expose] public section

noncomputable section

namespace Cert.Proof.SegIdeal

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.ShareLeaves (leaf pointsTo_leaves)
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S25600000 EltTy.f32)
local notation "oV" => (Memref.whole Cert.KernelIdeal.main_v1_scv : Memref Cert.KernelIdeal.sig Kind.scVector Space.hbm Cert.KernelIdeal.S16000 EltTy.f32)
local notation "sV" => (Memref.whole Cert.KernelIdeal.cc0_scratch0 : Memref Cert.KernelIdeal.sig Kind.scVector Space.vmem Cert.KernelIdeal.S25600 EltTy.f32)
local notation "rV" => (Memref.whole Cert.KernelIdeal.cc0_scratch1 : Memref Cert.KernelIdeal.sig Kind.scVector Space.vmem Cert.KernelIdeal.S16 EltTy.f32)

theorem nSub_zero : (K (F := F)).nSub 0 = 16 := rfl
theorem nCore_zero : (K (F := F)).nCore 0 = 2 := rfl

/-! ## The result's elements by SparseCore and by worker -/

/-- The flat result's elements in the blocks of SparseCore `c`. -/
def coreSet (c : Fin 2) : Finset S16000.Idx := Finset.univ.filter fun y => (y 0).val / 16 % 2 = c.val

theorem cores_disjoint : ∀ c ∈ (Finset.univ : Finset (Fin 2)), ∀ c' ∈ (Finset.univ : Finset (Fin 2)), c ≠ c' → Disjoint (coreSet c) (coreSet c') :=
  fun c _ c' _ hne => Finset.disjoint_left.2 fun y hy hy' =>
    hne (Fin.ext ((Finset.mem_filter.1 hy).2.symm.trans (Finset.mem_filter.1 hy').2))

theorem cores_cover : (Finset.univ : Finset (Fin 2)).biUnion coreSet = Finset.univ :=
  Finset.eq_univ_of_forall fun y => Finset.mem_biUnion.2
    ⟨⟨(y 0).val / 16 % 2, Nat.mod_lt _ (by decide)⟩, Finset.mem_univ _, Finset.mem_filter.2 ⟨Finset.mem_univ _, rfl⟩⟩

theorem tiles_disjoint (c : Fin 2) : ∀ i ∈ (Finset.univ : Finset (Fin 16)), ∀ j ∈ (Finset.univ : Finset (Fin 16)), i ≠ j →
    Disjoint (tileSet (2 * i.val + c.val)) (tileSet (2 * j.val + c.val)) :=
  fun i _ j _ hne => Finset.disjoint_left.2 fun y hy hy' =>
    hne (Fin.ext (by have h1 := (Finset.mem_filter.1 hy).2; have h2 := (Finset.mem_filter.1 hy').2; omega))

theorem tiles_cover (c : Fin 2) : (Finset.univ : Finset (Fin 16)).biUnion (fun i => tileSet (2 * i.val + c.val)) = coreSet c := by
  ext y
  have hc := c.isLt
  rw [Finset.mem_biUnion]
  constructor
  · rintro ⟨i, -, hi⟩
    have h := (Finset.mem_filter.1 hi).2
    exact Finset.mem_filter.2 ⟨Finset.mem_univ _, by omega⟩
  · intro hy
    have h := (Finset.mem_filter.1 hy).2
    refine ⟨⟨(y 0).val / 16 % 32 / 2, by omega⟩, Finset.mem_univ _, Finset.mem_filter.2 ⟨Finset.mem_univ _, ?_⟩⟩
    show (y 0).val / 16 % 32 = 2 * ((y 0).val / 16 % 32 / 2) + c.val
    omega

/-! ## What the call carries -/

/-- SparseCore `c`'s share of the flat edges, and its subcore `i`'s. -/
abbrev cq (c : Fin 2) : PosShare TreeShare := leaf 1 fullShare c
abbrev tq (c : Fin 2) (i : Fin 16) : PosShare TreeShare := leaf 4 (cq c) i

variable [FloatOps F]
variable (m : (ℓ : Loc nD τ sig) → Buf (Elt F) ℓ) (ρ : Dev nD → PrngReg)

/-- The flat edges: the argument, reshaped. -/
def flat (d : Dev nD) : S25600000.Idx → F .f32 :=
  shapeCast S25600000 (m ((SparseCore.T d).loc main_arg0) : S1600000x16.Idx → F .f32) shapeCasts_S1600000x16_S25600000

/-- The flat result's launch contents. -/
abbrev old (d : Dev nD) : S16000.Idx → F .f32 := m (oLoc d)

/-- The result elements of SparseCore `c`, holding `f`. -/
abbrev cPts (d : Dev nD) (c : Fin 2) (f : S16000.Idx → F .f32) : sProp 𝕄 := oLoc d ↦[coreSet c]{fullShare} f

/-- The call's payloads: shares of the flat edges out and back; the result elements out as at launch, back at the sums. -/
def P : (K (F := F)).Pay (nD := nD) (Val := Elt F) (Name := ℕ) (U := UU) where
  st := fun q d c => match q with | 0 => iprop(xPts (flat m d) d (cq (Fin.cast nCore_zero c)) ∗ cPts d (Fin.cast nCore_zero c) (old m d))
  dn := fun q d c => match q with | 0 => iprop(xPts (flat m d) d (cq (Fin.cast nCore_zero c)) ∗ cPts d (Fin.cast nCore_zero c) (segOut (flat m d)))
  go := fun q d c i => match q with
    | 0 => iprop(xPts (flat m d) d (tq (Fin.cast nCore_zero c) (Fin.cast nSub_zero i)) ∗ oPts d (2 * i.val + c.val) (old m d))
  td := fun q d c i => match q with
    | 0 => iprop(xPts (flat m d) d (tq (Fin.cast nCore_zero c) (Fin.cast nSub_zero i)) ∗ oPts d (2 * i.val + c.val) (segOut (flat m d)))
  x := fun _ _ => iprop(emp)

instance P_storable : (P (F := F) m).IsStorable where
  st q d c := match q with
    | 0 => (inferInstance : BI.Storable (upEmb : UEmb _ 𝕄) iprop(xPts (flat m d) d (cq (Fin.cast nCore_zero c)) ∗ cPts d (Fin.cast nCore_zero c) (old m d)))
  dn q d c := match q with
    | 0 => (inferInstance : BI.Storable (upEmb : UEmb _ 𝕄) iprop(xPts (flat m d) d (cq (Fin.cast nCore_zero c)) ∗ cPts d (Fin.cast nCore_zero c) (segOut (flat m d))))
  go q d c i := match q with
    | 0 => (inferInstance : BI.Storable (upEmb : UEmb _ 𝕄)
      iprop(xPts (flat m d) d (tq (Fin.cast nCore_zero c) (Fin.cast nSub_zero i)) ∗ oPts d (2 * i.val + c.val) (old m d)))
  td q d c i := match q with
    | 0 => (inferInstance : BI.Storable (upEmb : UEmb _ 𝕄)
      iprop(xPts (flat m d) d (tq (Fin.cast nCore_zero c) (Fin.cast nSub_zero i)) ∗ oPts d (2 * i.val + c.val) (segOut (flat m d))))

/-! ## The tasks' obligation -/

def coordsV (c : Fin (grid0.bound 0)) (s : Fin (grid0.bound 1)) : grid0.Coords :=
  fun | 0 => c | 1 => s | ⟨_ + 2, h⟩ => absurd h (Nat.not_lt.2 (Nat.le_add_left _ _))

/-- The body run on a vector subcore is the kernel at that subcore's coordinates. -/
theorem defs₀_vector (c : Fin τ.nSC) (s : Fin τ.nSub) :
    defs₀ (F := F) (.scVector c s) 0 ()
      = SparseCore.onTile hcore0 hsub0 (fun c s => cc0_sc_kernel (coordsV c s)
          xV (Memref.isWhole_whole _) oV (Memref.isWhole_whole _)
          sV (Memref.isWhole_whole _) rV (Memref.isWhole_whole _) cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task, from what it is handed, hands back its share and its elements at the sums. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (flat m d) (old m d) d (coordsV ⟨_, hci.1⟩ ⟨_, hci.2⟩) hF (tq (Fin.cast nCore_zero c) (Fin.cast nSub_zero i)) O W hO).trans
    (wp_mono frame _ _ fun _ => obl_post)

/-! ## Dealing out and joining -/

omit [FloatOps F] in
/-- A SparseCore's elements are its workers'. -/
theorem cPts_tiles (d : Dev nD) (c : Fin 2) (f : S16000.Idx → F .f32) :
    cPts d c f = bigSep Finset.univ fun i : Fin 16 => oPts d (2 * i.val + c.val) f := by
  unfold cPts oPts
  rw [← pointsTo_biUnion Finset.univ (ℓ := oLoc d) (fun i : Fin 16 => tileSet (2 * i.val + c.val)) (tiles_disjoint c), tiles_cover]

omit [FloatOps F] in
/-- The whole flat result is the two SparseCores' elements. -/
theorem oPts_cores (d : Dev nD) (f : S16000.Idx → F .f32) :
    (oLoc d ↦{fullShare} f : sProp 𝕄) = bigSep Finset.univ fun c : Fin 2 => cPts d c f := by
  unfold cPts
  rw [← pointsTo_biUnion Finset.univ (ℓ := oLoc d) coreSet cores_disjoint, cores_cover]; try rfl

set_option maxRecDepth 65536 in
omit [FloatOps F] in
/-- A SparseCore's share of the flat edges is its subcores' shares. -/
theorem xPts_subs (d : Dev nD) (c : Fin 2) (x : Buf (Elt F) (xLoc d)) :
    xPts x d (cq c) = bigSep Finset.univ fun i : Fin 16 => xPts x d (tq c i) :=
  pointsTo_leaves Finset.univ x 4 (cq c)

set_option maxRecDepth 65536 in
omit [FloatOps F] in
/-- The whole flat edges are the two SparseCores' shares. -/
theorem xPts_halves (d : Dev nD) (x : Buf (Elt F) (xLoc d)) :
    (xLoc d ↦{fullShare} x : sProp 𝕄) = bigSep Finset.univ fun c : Fin 2 => xPts x d (cq c) :=
  pointsTo_leaves Finset.univ x 1 fullShare

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What a SparseCore is handed splits among its subcores, and what they hand back joins. -/
theorem vecSplit : (K (F := F)).VecSplit' (P m) 0 := by
  intro d c
  show iprop(xPts (flat m d) d (cq (Fin.cast nCore_zero c)) ∗ cPts d (Fin.cast nCore_zero c) (old m d)) ⊢ |={Set.univ}=> iprop(
      (bigSep Finset.univ fun i : Fin ((K (F := F)).nSub 0) =>
        iprop(xPts (flat m d) d (tq (Fin.cast nCore_zero c) (Fin.cast nSub_zero i)) ∗ oPts d (2 * (Fin.cast nSub_zero i).val + (Fin.cast nCore_zero c).val) (old m d)))
      ∗ ((bigSep Finset.univ fun i : Fin ((K (F := F)).nSub 0) =>
          iprop(xPts (flat m d) d (tq (Fin.cast nCore_zero c) (Fin.cast nSub_zero i)) ∗ oPts d (2 * (Fin.cast nSub_zero i).val + (Fin.cast nCore_zero c).val) (segOut (flat m d))))
          -∗ iprop(xPts (flat m d) d (cq (Fin.cast nCore_zero c)) ∗ cPts d (Fin.cast nCore_zero c) (segOut (flat m d)))))
  generalize Fin.cast nCore_zero c = c'
  rw [bigSep_tasks (F := F) (fun i => iprop(xPts (flat m d) d (tq c' i) ∗ oPts d (2 * i.val + c'.val) (old m d))),
    bigSep_tasks (F := F) (fun i => iprop(xPts (flat m d) d (tq c' i) ∗ oPts d (2 * i.val + c'.val) (segOut (flat m d)))),
    bigSep_sep', bigSep_sep', cPts_tiles, cPts_tiles]
  rw [xPts_subs]
  iintro H; imodintro
  isplitl [H]; · iexact H
  iintro H; iexact H

/-! ## The launch element of the certificate's ghost state -/

omit [FloatOps F] in
theorem bigSep_emp' {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The two reshapes. -/
abbrev opIn : HloOp τ sig (Elt F) := StableHlo.reshape main_arg0 main_v0 (rfl : (.f32 : EltTy) = .f32) shapeCasts_S1600000x16_S25600000
abbrev opOut : HloOp τ sig (Elt F) := StableHlo.reshape main_v1 main_v2 (rfl : (.f32 : EltTy) = .f32) shapeCasts_S16000_S1000x16

/-- The TensorCore's arrays. -/
abbrev S6 : Finset (DevRef τ sig) := {a0', a1', a2', x', o', r'}

omit [FloatOps F] in
theorem held_S6 (d : Dev nD) (W : Valuation τ sig (Elt F)) :
    (held (T d) S6 W : sProp 𝕄) = iprop(((SparseCore.T d).loc main_arg0 ↦{fullShare} W a0') ∗ ((SparseCore.T d).loc main_arg1 ↦{fullShare} W a1')
      ∗ ((SparseCore.T d).loc main_arg2 ↦{fullShare} W a2') ∗ (xLoc d ↦{fullShare} W x') ∗ (oLoc d ↦{fullShare} W o')
      ∗ (SparseCore.T d).loc main_v2 ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

/-- The launch valuation, and that after the call. -/
def V0 (d : Dev nD) : Valuation τ sig (Elt F) := fun b => m (d, b)
def V2 (d : Dev nD) : Valuation τ sig (Elt F) := Function.update ((opIn (F := F)).result (V0 m d)) o' (segOut (flat m d))

omit [FloatOps F] in
theorem unscoped_held (d : Dev nD) : (unscopedBufs d (fun b => m ((SparseCore.T d).loc b)) : sProp 𝕄) = held (T d) S6 (V0 m d) := by
  rw [held_S6]
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]
  rfl

/-- The result: the sums, as 1000 rows of sixteen. -/
def outVal (d : Dev nD) : S1000x16.Idx → F .f32 := shapeCast S1000x16 (segOut (flat m d)) shapeCasts_S16000_S1000x16

/-- After the first reshape: the flat edges at the argument reshaped, the others as at launch. -/
theorem held_V1 (d : Dev nD) :
    (held (T d) S6 ((opIn (F := F)).result (V0 m d)) : sProp 𝕄)
      = iprop(((SparseCore.T d).loc main_arg0 ↦{fullShare} m ((SparseCore.T d).loc main_arg0)) ∗ ((SparseCore.T d).loc main_arg1 ↦{fullShare} m ((SparseCore.T d).loc main_arg1))
        ∗ ((SparseCore.T d).loc main_arg2 ↦{fullShare} m ((SparseCore.T d).loc main_arg2)) ∗ (xLoc d ↦{fullShare} flat m d) ∗ (oLoc d ↦{fullShare} old m d)
        ∗ (SparseCore.T d).loc main_v2 ↦{fullShare} m ((SparseCore.T d).loc main_v2)) := by
  rw [held_S6, show (opIn (F := F)).result (V0 m d) x' = flat m d from StableHlo.reshape_result _ _ _ _ _ _ _]
  rw [StableHlo.reshape_result_ne (h := show (main_arg0 : Ref sig .tc) ≠ main_v0 by decide),
    StableHlo.reshape_result_ne (h := show (main_arg1 : Ref sig .tc) ≠ main_v0 by decide),
    StableHlo.reshape_result_ne (h := show (main_arg2 : Ref sig .tc) ≠ main_v0 by decide),
    StableHlo.reshape_result_ne (h := show (main_v1 : Ref sig .tc) ≠ main_v0 by decide),
    StableHlo.reshape_result_ne (h := show (main_v2 : Ref sig .tc) ≠ main_v0 by decide)]
  rfl

/-- After the call: the flat result at the sums. -/
theorem held_V2 (d : Dev nD) :
    (held (T d) S6 (V2 m d) : sProp 𝕄)
      = iprop(((SparseCore.T d).loc main_arg0 ↦{fullShare} m ((SparseCore.T d).loc main_arg0)) ∗ ((SparseCore.T d).loc main_arg1 ↦{fullShare} m ((SparseCore.T d).loc main_arg1))
        ∗ ((SparseCore.T d).loc main_arg2 ↦{fullShare} m ((SparseCore.T d).loc main_arg2)) ∗ (xLoc d ↦{fullShare} flat m d) ∗ (oLoc d ↦{fullShare} segOut (flat m d))
        ∗ (SparseCore.T d).loc main_v2 ↦{fullShare} m ((SparseCore.T d).loc main_v2)) := by
  rw [held_S6]
  unfold V2
  rw [Function.update_self, Function.update_of_ne (show a0' ≠ o' by decide), Function.update_of_ne (show a1' ≠ o' by decide),
    Function.update_of_ne (show a2' ≠ o' by decide), Function.update_of_ne (show x' ≠ o' by decide), Function.update_of_ne (show r' ≠ o' by decide),
    show (opIn (F := F)).result (V0 m d) x' = flat m d from StableHlo.reshape_result _ _ _ _ _ _ _,
    StableHlo.reshape_result_ne (h := show (main_arg0 : Ref sig .tc) ≠ main_v0 by decide),
    StableHlo.reshape_result_ne (h := show (main_arg1 : Ref sig .tc) ≠ main_v0 by decide),
    StableHlo.reshape_result_ne (h := show (main_arg2 : Ref sig .tc) ≠ main_v0 by decide),
    StableHlo.reshape_result_ne (h := show (main_v2 : Ref sig .tc) ≠ main_v0 by decide)]
  rfl

theorem V2_arg (d : Dev nD) (b : Ref sig .tc) (hx : b ≠ main_v0) (ho : b ≠ main_v1) (hr : b ≠ main_v2) :
    (opOut (F := F)).result (V2 m d) (Proc.devRef .tc b) = m ((SparseCore.T d).loc b) := by
  rw [StableHlo.reshape_result_ne (h := hr)]
  unfold V2
  rw [Function.update_of_ne (StableHlo.devRef_ne_of_ne ho), StableHlo.reshape_result_ne (h := hx)]
  rfl

theorem V2_out (d : Dev nD) : (opOut (F := F)).result (V2 m d) r' = outVal m d := by
  refine (StableHlo.reshape_result _ _ _ _ _ _ _).trans ?_
  show (fun i => shapeCast S1000x16 (V2 m d o' : S16000.Idx → F .f32) shapeCasts_S16000_S1000x16 i) = _
  unfold V2
  rw [Function.update_self]
  rfl

/-- What `@main` leaves: the arguments as at launch, the result at the sums. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_v2 ↦{fullShare} outVal m d))

theorem st0_eq (d : Dev nD) : (bigSep Finset.univ fun c : Fin ((K (F := F)).nCore 0) => (P m).st 0 d c)
    = iprop((xLoc d ↦{fullShare} flat m d) ∗ (oLoc d ↦{fullShare} old m d)) := by
  show (bigSep (Finset.univ : Finset (Fin 2)) fun c => iprop(xPts (flat m d) d (cq c) ∗ cPts d c (old m d))) = _
  rw [bigSep_sep', ← oPts_cores, ← xPts_halves]
theorem dn0_eq (d : Dev nD) : (bigSep Finset.univ fun c : Fin ((K (F := F)).nCore 0) => (P m).dn 0 d c)
    = iprop((xLoc d ↦{fullShare} flat m d) ∗ (oLoc d ↦{fullShare} segOut (flat m d))) := by
  show (bigSep (Finset.univ : Finset (Fin 2)) fun c => iprop(xPts (flat m d) d (cq c) ∗ cPts d c (segOut (flat m d)))) = _
  rw [bigSep_sep', ← oPts_cores, ← xPts_halves]

omit [FloatOps F] in
theorem hIn : (opIn (F := F)).bufs ⊆ S6 := show ({a0', x'} : Finset (DevRef τ sig)) ⊆ S6 by decide
omit [FloatOps F] in
theorem hOut : (opOut (F := F)).bufs ⊆ S6 := show ({o', r'} : Finset (DevRef τ sig)) ⊆ S6 by decide

/-- `@main` on a device's TensorCore: the reshape in, the call, the reshape out. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S6) hIn (V := V0 m d)) $$ [Hb Hheld]
  · isplitl [Hb]; · iexact Hb
    iexact Hheld
  iintro ⟨Hb, Hheld⟩
  rw [wp_ret]; imodintro
  ihave Hh := (Entails.of_eq (held_V1 (F := F) m d)) $$ Hheld
  icases Hh with ⟨H0, H1, H2, Hx, Ho, Hr⟩
  iapply ((K (F := F)).wp_run (D (F := F)) 𝒱 (EH := EH) (P := P m) κ d 0) $$ [Hst H0 H1 H2 Hx Ho Hr Hb Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  iapply (wp_hlo_within 𝒱 (SparseCore.T d) none Set.univ (op := opOut) (S := S6) hOut (V := V2 m d)) $$ [Hb H0 H1 H2 Hx Ho Hr]
  · isplitl [Hb]; · iexact Hb
    rw [held_V2]
    isplitl [H0]; · iexact H0
    isplitl [H1]; · iexact H1
    isplitl [H2]; · iexact H2
    isplitl [Hx]; · iexact Hx
    isplitl [Ho]; · iexact Ho
    iexact Hr
  iintro ⟨Hb, Hheld⟩
  ihave Hh := (Entails.of_eq (held_S6 (F := F) d _)) $$ Hheld
  rw [V2_arg m d main_arg0 (by decide) (by decide) (by decide), V2_arg m d main_arg1 (by decide) (by decide) (by decide),
    V2_arg m d main_arg2 (by decide) (by decide) (by decide), V2_out]
  icases Hh with ⟨H0, H1, H2, -, -, Hr⟩
  rw [wp_ret]; imodintro; imodintro
  isplitl [Hst]; · iexact Hst
  isplitr [Hb Hts]
  · isplitl [H0]; · iexact H0
    isplitl [H1]; · iexact H1
    isplitl [H2]; · iexact H2
    iexact Hr
  isplitl [Hb] <;> iassumption

/-- What is read off at the end of the run. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_v2) = outVal m d

omit [FloatOps F] in
/-- A buffer held whole is at its contents in memory. -/
theorem agree (s' : Phys nD τ sig (Elt F)) (ℓ : Loc nD τ sig) (f : Buf (Elt F) ℓ) :
    (iprop(SI s' ∗ (ℓ ↦{fullShare} f)) : sProp 𝕄) ⊢ iprop(⌜s'.mem.mem ℓ = f⌝ ∗ SI s') := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  iintro ⟨⟨H0, H1, H2, Hr⟩, HSI⟩
  ihave H := (agree s' _ _) $$ [HSI H0]
  · isplitl [HSI] <;> iassumption
  icases H with ⟨%h0, HSI⟩
  ihave H := (agree s' _ _) $$ [HSI H1]
  · isplitl [HSI] <;> iassumption
  icases H with ⟨%h1, HSI⟩
  ihave H := (agree s' _ _) $$ [HSI H2]
  · isplitl [HSI] <;> iassumption
  icases H with ⟨%h2, HSI⟩
  ihave H := (agree s' _ _) $$ [HSI Hr]
  · isplitl [HSI] <;> iassumption
  icases H with ⟨%hr, HSI⟩
  ipureintro; exact ⟨h0, h1, h2, hr⟩

/-! ## The program's run -/

/-- What the run ends with, on every device. -/
def QC : PUnit × MemSt nD τ sig (Elt F) → Prop := fun r =>
  (∀ d : Dev nD, r.2.mem ((SparseCore.T d).loc main_arg0) = m ((SparseCore.T d).loc main_arg0) ∧ r.2.mem ((SparseCore.T d).loc main_arg1) = m ((SparseCore.T d).loc main_arg1)
    ∧ r.2.mem ((SparseCore.T d).loc main_arg2) = m ((SparseCore.T d).loc main_arg2) ∧ r.2.mem ((SparseCore.T d).loc main_v2) = outVal m d) ∧ r.2.sem = fun _ => 0

/-- The kernel runs from any memory: it ends with its arguments unchanged, its result at the reshaped block sums, and
    every semaphore counter at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.SegIdeal

end
-- ==== Proof.IdealSum.lean ====
/-
  What the kernel's arithmetic gives over exact numbers: the four accumulators of a block, added in pairs, are the sum of the block's
  1600 rows, lane by lane.
-/
module

public import proofs.«01_k».proof.Proof.IdealBlock

@[expose] public section

noncomputable section

namespace Cert.Proof.SegIdeal

open Cert.KernelIdeal Cert.KernelIdeal.Gen
open Idealize.ShloMosaic Idealize.ShloMosaic.ValueIdx

/-- Lane `l` of the sum of the first `n` rows of a block. -/
def rowSum (b : S25600.Idx → Ideal .f32) (n : ℕ) (l : S16.Idx) : EReal := ∑ r ∈ Finset.range n, row b r l

/-- An accumulator starts at zero. -/
theorem start_zero (l : S16.Idx) : (k0_pay1 : FVec Ideal S16 .f32) l = 0 := by
  show Ideal.ofBits .f32 0x00000000#32 = 0
  simp [Ideal.ofBits, Ideal.ieee]

/-- One trip adds to an accumulator the four rows that are its share, at lane `l`. -/
theorem addRows_apply (b : S25600.Idx → Ideal .f32) (n : ℕ) (a : FVec Ideal S16 .f32) (l : S16.Idx) :
    (addRows b n a l : EReal) = a l + row b n l + row b (n + 4) l + row b (n + 8) l + row b (n + 12) l := rfl

/-- Sixteen more rows. -/
theorem rowSum_trip (b : S25600.Idx → Ideal .f32) (k : ℕ) (l : S16.Idx) :
    rowSum b (16 * (k + 1)) l = rowSum b (16 * k) l + ∑ r ∈ Finset.range 16, row b (16 * k + r) l :=
  Finset.sum_range_add _ (16 * k) 16

/-- After `k` trips the four accumulators together hold the sum of the first `16 k` rows. -/
theorem accs_sum (b : S25600.Idx → Ideal .f32) (l : S16.Idx) (k : ℕ) :
    ((accs b k).1 l + (accs b k).2.1 l + ((accs b k).2.2.1 l + (accs b k).2.2.2 l) : EReal) = rowSum b (16 * k) l := by
  induction k with
  | zero =>
    show ((k0_pay1 : FVec Ideal S16 .f32) l + (k0_pay1 : FVec Ideal S16 .f32) l
      + ((k0_pay1 : FVec Ideal S16 .f32) l + (k0_pay1 : FVec Ideal S16 .f32) l) : EReal) = 0
    rw [start_zero]
    simp
  | succ k ih =>
    rw [rowSum_trip, ← ih]
    show (addRows b (16 * k) (accs b k).1 l + addRows b (16 * k + 1) (accs b k).2.1 l
      + (addRows b (16 * k + 2) (accs b k).2.2.1 l + addRows b (16 * k + 3) (accs b k).2.2.2 l) : EReal) = _
    rw [addRows_apply, addRows_apply, addRows_apply, addRows_apply]
    simp only [Finset.sum_range_succ, Finset.sum_range_zero, zero_add, add_zero, Nat.add_assoc, Nat.reduceAdd]
    ac_rfl

/-- Lane `l` of a block's sum is the sum of that lane over the block's 1600 rows. -/
theorem blockSum_eq (b : S25600.Idx → Ideal .f32) (l : S16.Idx) : (blockSum b l : EReal) = rowSum b 1600 l :=
  accs_sum b l 100

end Cert.Proof.SegIdeal

end
-- ==== Proof.IdealOut.lean ====
/-
  What the kernel leaves in its result over exact numbers: column `l` of row `g` is the sum of that column over the edges
  `1600 g … 1600 g + 1599`.
-/
module

public import proofs.«01_k».proof.Proof.IdealRun
public import proofs.«01_k».proof.Proof.IdealSum
public import Idealize.ShloMosaic.Lib.Routing.Ops

@[expose] public section

noncomputable section

namespace Cert.Proof.SegIdeal

open Cert.KernelIdeal Cert.KernelIdeal.Gen
open Idealize.ShloMosaic
open Idealize.ShloMosaic.ValueIdx Idealize.ShloMosaic.Routing

/-- The edges at launch, as an array of exact numbers. -/
abbrev edges (m : (ℓ : Loc nD τ sig) → Buf (Elt Ideal) ℓ) (d : Dev nD) : S1600000x16.Idx → EReal := m ((SparseCore.T d).loc main_arg0)

/-- Row `r` of block `g`, at lane `l`, is column `l` of edge `1600 g + r`. -/
theorem row_block (m : (ℓ : Loc nD τ sig) → Buf (Elt Ideal) ℓ) (d : Dev nD) (g : Fin 1000) (r : Fin 1600) (l : Fin 16)
    (h : 1600 * g.val + r.val < 1600000) :
    row (block (flat (F := Ideal) m d) g.val) r.val (ix1 l)
      = edges m d (ix2 (⟨1600 * g.val + r.val, h⟩ : Fin 1600000) l) := by
  have hr := r.isLt
  have hl := l.isLt
  refine cast21 (a := 1600000) (b := 16) (n := 25600000) _ _ _ _ _ ?_
  show (25600 * g.val + (16 * r.val + l.val) % 25600) % 25600000 = (1600 * g.val + r.val) * 16 + l.val
  omega

/-- Column `l` of row `g` of the result: the sum over the edges of block `g`. -/
theorem outVal_eq (m : (ℓ : Loc nD τ sig) → Buf (Elt Ideal) ℓ) (d : Dev nD) (g : Fin 1000) (l : Fin 16)
    (h : ∀ r : Fin 1600, 1600 * g.val + r.val < 1600000) :
    (outVal (F := Ideal) m d (ix2 g l) : EReal)
      = ∑ r : Fin 1600, edges m d (ix2 (⟨1600 * g.val + r.val, h r⟩ : Fin 1600000) l) := by
  have hg := g.isLt
  have hl := l.isLt
  have hp : g.val * 16 + l.val < 16000 := by omega
  have h1 : outVal (F := Ideal) m d (ix2 g l) = segOut (flat (F := Ideal) m d) (ix1 (⟨g.val * 16 + l.val, hp⟩ : Fin 16000)) :=
    cast12 (a := 1000) (b := 16) (n := 16000) _ _ g l _ rfl
  have hq : (g.val * 16 + l.val) / 16 = g.val := by omega
  have hm : (⟨(g.val * 16 + l.val) % 16, Nat.mod_lt _ (by decide)⟩ : Fin 16) = l := Fin.ext (by show (g.val * 16 + l.val) % 16 = l.val; omega)
  have h2 : segOut (flat (F := Ideal) m d) (ix1 (⟨g.val * 16 + l.val, hp⟩ : Fin 16000)) = blockSum (block (flat (F := Ideal) m d) g.val) (ix1 l) := by
    show blockSum (block (flat (F := Ideal) m d) ((g.val * 16 + l.val) / 16)) (ix1 ⟨(g.val * 16 + l.val) % 16, _⟩) = _
    rw [hq, hm]
  rw [h1, h2, blockSum_eq, rowSum, Finset.sum_range]
  exact Finset.sum_congr rfl fun r _ => row_block m d g r l (h r)

end Cert.Proof.SegIdeal

end
-- ==== Proof.RefOps.lean ====
/-
  Facts about scatters and counts that the reference's index arithmetic needs, at any extents: where an update of a scatter by one
  index word lands, what a scatter of ones adds up to, and how many multiples of a number lie below a bound.
-/
module

public import Idealize.ShloMosaic.Lib.Routing.Ops
public import Idealize.ShloMosaic.Lib.Routing.OpsPair

@[expose] public section

noncomputable section

namespace Cert.Proof.SegRef

open Idealize.ShloMosaic Idealize.ShloMosaic.ValueIdx Idealize.ShloMosaic.Routing

/-! ## Where an update lands -/

/-- Update `k` of a scatter of `K` scalars into a vector of `N`, one index word each, lands at entry `e` exactly when its word, read
    signed, is `e`. -/
theorem lands_scalar {K N : ℕ} (d : ScatterDims (shape1 N) (shape2 K 1) (shape1 K)) (hiw : d.insertedWindowDims = [0])
    (hsd : d.scatterDimsToOperandDims = [0]) (hivd : d.indexVectorDim = 1) (idx : IVec (shape2 K 1) 32) (k : Fin K) (e : Fin N) :
    d.resultIdx? (ix1 k) idx = some (ix1 e) ↔ (idx (ix2 k (0 : Fin 1))).toInt = (e.val : ℤ) := by
  have hm : (0 : Fin 1) ∈ d.scatterDimsToOperandDims := by rw [hsd]; exact List.mem_singleton.2 rfl
  have hno : (0 : Fin 1) ∉ d.sKept := fun h =>
    (of_decide_eq_true (List.mem_filter.1 h).2) (by rw [hiw]; exact List.mem_singleton.2 rfl)
  have hsi : ∀ c, d.siIdx (ix1 k) c = ix2 k (0 : Fin 1) := fun c => by
    funext b
    match b with
    | ⟨0, _⟩ =>
      apply Fin.ext
      unfold ScatterDims.siIdx
      rw [dif_neg (by rw [hivd]; exact Nat.zero_ne_one)]
      unfold ScatterDims.siCoord
      rw [Fin.val_cast]
      exact congrArg (fun a : Fin 1 => ((ix1 k : (shape1 K).Idx) a).val) (Subsingleton.elim _ 0)
    | ⟨1, _⟩ => exact Subsingleton.elim (α := Fin 1) _ _
  rw [resultIdx?_ix1, ScatterDims.start, dif_pos hm, hsi, ScatterDims.window, dif_neg hno]
  omega

/-- Update `(k, l)` of a scatter of `K` rows of `C` into a matrix of `R` rows of `C`, one index word a row, lands at `(r, c)` exactly
    when row `k`'s word, read signed, is `r`, and `l` is `c`. -/
theorem lands_row {K R C : ℕ} (d : ScatterDims (shape2 R C) (shape2 K 1) (shape2 K C)) (huw : d.updateWindowDims = [1])
    (hiw : d.insertedWindowDims = [0]) (hsd : d.scatterDimsToOperandDims = [0]) (hivd : d.indexVectorDim = 1)
    (idx : IVec (shape2 K 1) 32) (k : Fin K) (l : Fin C) (r : Fin R) (c : Fin C) :
    d.resultIdx? (ix2 k l) idx = some (ix2 r c) ↔ (idx (ix2 k (0 : Fin 1))).toInt = (r.val : ℤ) ∧ l = c := by
  have hm : (0 : Fin 2) ∈ d.scatterDimsToOperandDims := by rw [hsd]; exact List.mem_singleton.2 rfl
  have hm1 : (1 : Fin 2) ∉ d.scatterDimsToOperandDims := one_not_mem _ hsd
  have hno : (0 : Fin 2) ∉ d.sKept := fun h =>
    (of_decide_eq_true (List.mem_filter.1 h).2) (by rw [hiw]; exact List.mem_singleton.2 rfl)
  have hin : (1 : Fin 2) ∈ d.sKept :=
    List.mem_filter.2 ⟨List.mem_finRange _, decide_eq_true (one_not_mem _ hiw)⟩
  have hu : ∀ a ∈ d.updateWindowDims, a = (1 : Fin 2) := fun a h => by rw [huw] at h; exact List.mem_singleton.1 h
  have hs : ∀ a ∈ d.uScatter, a = (0 : Fin 2) := fun a h => by
    have h' : a ∉ d.updateWindowDims := of_decide_eq_true (List.mem_filter.1 h).2
    rw [huw] at h'
    have h1 : a.val ≠ 1 := fun q => h' (List.mem_singleton.2 (Fin.ext q))
    have h2 : a.val < 2 := a.isLt
    exact Fin.ext (by show a.val = 0; omega)
  have hsi : ∀ p, d.siIdx (ix2 k l) p = ix2 k (0 : Fin 1) := fun p => by
    funext b
    match b with
    | ⟨0, _⟩ =>
      apply Fin.ext
      unfold ScatterDims.siIdx
      rw [dif_neg (by rw [hivd]; exact Nat.zero_ne_one)]
      unfold ScatterDims.siCoord
      rw [Fin.val_cast]
      exact congrArg (fun a : Fin 2 => ((ix2 k l : (shape2 K C).Idx) a).val) (hs _ (List.getElem_mem _))
    | ⟨1, _⟩ => exact Subsingleton.elim (α := Fin 1) _ _
  have hw1 : d.window (ix2 k l) 1 = l.val := by
    rw [ScatterDims.window, dif_pos hin]
    exact congrArg (fun a : Fin 2 => ((ix2 k l : (shape2 K C).Idx) a).val) (hu _ (List.getElem_mem _))
  have hw0 : d.window (ix2 k l) 0 = 0 := by rw [ScatterDims.window, dif_neg hno]
  have hs0 : d.start (ix2 k l) idx 0 = (idx (ix2 k (0 : Fin 1))).toInt := by rw [ScatterDims.start, dif_pos hm, hsi]
  have hs1 : d.start (ix2 k l) idx 1 = 0 := by rw [ScatterDims.start, dif_neg hm1]
  rw [resultIdx?_ix2, hs0, hs1, hw0, hw1, Fin.ext_iff]
  omega

/-! ## A scatter of ones -/

/-- A left fold that adds one to a word at the steps with `p` adds the number of those steps. -/
theorem fold_ones {ι : Type} (p : ι → Prop) [DecidablePred p] (l : List ι) (z : ℕ) :
    l.foldl (fun a n => if p n then IntOp.addi a 1#32 else a) (BitVec.ofNat 32 z) = BitVec.ofNat 32 (z + l.countP fun n => decide (p n)) := by
  induction l generalizing z with
  | nil => rfl
  | cons n l ih =>
    rw [List.foldl_cons, List.countP_cons]
    by_cases h : p n
    · rw [if_pos h, if_pos (decide_eq_true h), show IntOp.addi (BitVec.ofNat 32 z) 1#32 = BitVec.ofNat 32 (z + 1) from (BitVec.ofNat_add z 1).symm, ih]
      exact congrArg _ (by omega)
    · rw [if_neg h, if_neg (fun q => h (of_decide_eq_true q)), ih, Nat.add_zero]

/-- Adding one into a vector of zeros at each of `K` index words, each below `2 ^ 31`: entry `e` holds the number of words that are `e`. -/
theorem scatter_ones {K N : ℕ} (d : ScatterDims (shape1 N) (shape2 K 1) (shape1 K)) (hiw : d.insertedWindowDims = [0])
    (hsd : d.scatterDimsToOperandDims = [0]) (hivd : d.indexVectorDim = 1) (x0 : IVec (shape1 N) 32) (hx0 : ∀ i, x0 i = 0#32)
    (idx : IVec (shape2 K 1) 32) (upd : IVec (shape1 K) 32) (hupd : ∀ i, upd i = 1#32) (f : ℕ → ℕ)
    (hf : ∀ i : Fin K, idx (ix2 i (0 : Fin 1)) = BitVec.ofNat 32 (f i.val)) (hf31 : ∀ i : Fin K, f i.val < 2 ^ 31) (e : Fin N) :
    Host.scatter d IntOp.addi x0 idx upd (ix1 e) = BitVec.ofNat 32 (Nat.count (fun i => f i = e.val) K) := by
  have hl : ∀ n : Fin (shape1 K).numel, d.resultIdx? ((shape1 K).rowMajor.symm n) idx = some (ix1 e) ↔ f n.val = e.val := fun n => by
    rw [symm1, lands_scalar d hiw hsd hivd, hf, StableHlo.Predicate.toInt_ofNat_small _ (hf31 _), Fin.val_cast]
    omega
  rw [scatter_at, hx0]
  simp only [hl, hupd]
  rw [show (0#32 : BitVec 32) = BitVec.ofNat 32 0 from rfl, fold_ones (fun n : Fin (shape1 K).numel => f n.val = e.val), Nat.zero_add,
    countP_finRange _ (fun i => f i = e.val), numel1]

/-! ## Multiples of a number -/

/-- Among the first `K` multiples of `c`, counted from zero, `e` occurs once if it is one of them, else not at all. -/
theorem count_multiples (c : ℕ) (hc : 0 < c) (e K : ℕ) : Nat.count (fun i => c * i = e) K = if c ∣ e ∧ e < c * K then 1 else 0 := by
  induction K with
  | zero => simp
  | succ K ih =>
    rw [Nat.count_succ, ih]
    by_cases h : c * K = e
    · subst h
      rw [if_neg (by omega), if_pos rfl, if_pos ⟨Dvd.intro _ rfl, Nat.mul_lt_mul_of_pos_left (Nat.lt_succ_self K) hc⟩]
    · rw [if_neg h, Nat.add_zero]
      refine if_congr (and_congr_right fun hd => ?_) rfl rfl
      obtain ⟨q, rfl⟩ := hd
      have hq : K ≠ q := fun t => h (congrArg _ t)
      rw [Nat.mul_lt_mul_left hc, Nat.mul_lt_mul_left hc]
      omega

/-- From zero to `j` there are `j / c + 1` multiples of `c`. -/
theorem sum_multiples (c : ℕ) (hc : 0 < c) (j : ℕ) : ((List.range (j + 1)).map fun e => if c ∣ e then 1 else 0).sum = j / c + 1 := by
  induction j with
  | zero => simp
  | succ j ih =>
    rw [List.range_succ, List.map_append, List.sum_append, ih, Nat.succ_div]
    simp only [List.map_cons, List.map_nil, List.sum_cons, List.sum_nil]
    omega

/-- Zero followed by `c`s: the first `j + 1` of them add up to `c * j`. -/
theorem sum_const_tail (c j : ℕ) : ((List.range (j + 1)).map fun i => if i = 0 then 0 else c).sum = c * j := by
  induction j with
  | zero => rfl
  | succ j ih =>
    rw [List.range_succ, List.map_append, List.sum_append, ih]
    simp only [List.map_cons, List.map_nil, List.sum_cons, List.sum_nil, if_neg (Nat.succ_ne_zero j)]
    rw [Nat.mul_succ, Nat.add_zero]

end Cert.Proof.SegRef

end
-- ==== Proof.RefIndex.lean ====
/-
  The reference's index arithmetic where every group but the last is given 1600 edges: the running sum of the group lengths gives each group's first
  edge, marks at those edges are summed to number the groups along the edges, and the group of edge `i` comes out as `i / 1600`.
-/
module

public import proofs.«01_k».proof.Proof.Gen.ReferenceIdeal
public import proofs.«01_k».proof.Proof.RefOps
public import Idealize.ShloMosaic.Lib.Routing.OpsSet
public import Idealize.ShloMosaic.Lib.Routing.OpsOne
public import Idealize.ShloMosaic.Lib.Pipeline.Value
public import Idealize.ShloMosaic.Lib.ReduceAll

@[expose] public section

noncomputable section

namespace Cert.Proof.SegRef

open Cert.ReferenceIdeal Cert.ReferenceIdeal.Gen Cert.ReferenceIdeal.Facts
open Idealize.ShloMosaic
open Idealize.ShloMosaic.ValueIdx Idealize.ShloMosaic.Routing

/-- A literal scalar word. -/
def word (v : BitVec 32) : IVec S_ 32 := constantI S_ 32 v

/-- The group lengths moved up by one place, the last one first. -/
def rolled (w : IVec S1000 32) : IVec S1000 32 :=
  concatenate S1000 0 [⟨S1, extractStridedSlice S1 ![999] w slices_S1000_S1_999⟩,
    ⟨S999, extractStridedSlice S999 ![0] w slices_S1000_S999_0⟩] concatenates_S1_S999_S1000_d0

/-- The lengths moved up, with zero in front. -/
def shifted (w : IVec S1000 32) : IVec S1000 32 :=
  Host.scatter scatter_S1000_S1_S__n_0_0_0 (fun _ b => b) (rolled w) (broadcastInDim S1 ![] bcast_S_S1 (word 0#32)) (word 0#32)

/-- The first edge of each group. -/
def firstEdge (w : IVec S1000 32) : IVec S1000 32 :=
  Host.reduceWindow IntOp.addi ![1000] ![1] ![999] ![0] (shifted w) (broadcastInDim S_ ![] bcast_S_S_ (word 0#32))
    reduceWindows_S1000_S1000_w1000s1p999_0 h_S_

/-- The first edges, a negative one counted from the end. -/
def firstEdgeWrapped (w : IVec S1000 32) : IVec S1000 32 :=
  select (cmpi .slt (firstEdge w) (broadcastInDim S1000 ![] bcast_S_S1000 (word 0#32)))
    (addi (firstEdge w) (broadcastInDim S1000 ![] bcast_S_S1000 (word 1600000#32))) (firstEdge w)

/-- How many groups start at each edge. -/
def marks (w : IVec S1000 32) : IVec S1600000 32 :=
  Host.scatter scatter_S1600000_S1000x1_S1000_n_0_0_1 IntOp.addi (broadcastInDim S1600000 ![] bcast_S_S1600000 (word 0#32))
    (broadcastInDim S1000x1 ![0] bcast_S1000_S1000x1_0 (firstEdgeWrapped w)) (broadcastInDim S1000 ![] bcast_S_S1000 (word 1#32))

/-- How many groups start at each edge or before it. -/
def started (w : IVec S1000 32) : IVec S1600000 32 :=
  Host.reduceWindow IntOp.addi ![1600000] ![1] ![1599999] ![0] (marks w) (broadcastInDim S_ ![] bcast_S_S_ (word 0#32))
    reduceWindows_S1600000_S1600000_w1600000s1p1599999_0 h_S_

/-- The position of each edge's group among the groups. -/
def position (w : IVec S1000 32) : IVec S1600000 32 :=
  subi (started w) (broadcastInDim S1600000 ![] bcast_S_S1600000 (word 1#32))

/-- The positions as a column, a negative one counted from the end. -/
def positionCol (w : IVec S1000 32) : IVec S1600000x1 32 :=
  broadcastInDim S1600000x1 ![0] bcast_S1600000_S1600000x1_0
    (select (cmpi .slt (position w) (broadcastInDim S1600000 ![] bcast_S_S1600000 (word 0#32)))
      (addi (position w) (broadcastInDim S1600000 ![] bcast_S_S1600000 (word 1000#32))) (position w))

/-- Whether each position lies in `0 … 999`. -/
def inRange (w : IVec S1000 32) : IVec S1600000 1 :=
  Host.reduce IntOp.andi
    (andi (cmpi .sge (positionCol w) (broadcastInDim S1600000x1 ![] bcast_S_S1600000x1 (word 0#32)))
      (cmpi .sle (positionCol w)
        (broadcastInDim S1600000x1 ![0, 1] bcast_S1x1_S1600000x1_0_1 (broadcastInDim S1x1 ![1] bcast_S1_S1x1_1 (constantI S1 32 999#32)))))
    (constantI S_ 1 1#1) reducesTo_S1600000x1_S1600000_d1 h_S_

/-- The group of each edge. -/
def groupOf (w : IVec S1000 32) : IVec S1600000 32 :=
  select (inRange w) (Host.gather gather_S1000_S1600000x1_S1600000_n_0_n_n_0_1_1 (iotaInDim S1000 32 0) (positionCol w))
    (broadcastInDim S1600000 ![] bcast_S_S1600000 (word 2147483648#32))

section
variable {w : IVec S1000 32} (hw : ∀ i : Fin 999, w (ix1 i.castSucc) = 1600#32)
include hw

/-- From the second entry on, the lengths moved up are all 1600. -/
theorem rolled_eq (i : Fin 1000) (hi : i.val ≠ 0) : rolled w (ix1 i) = 1600#32 := by
  have hlt := i.isLt
  have hs : i.val - 1 < 999 := by omega
  refine (concatenate_pair_apply_right (t := S1000) (s₁ := S1) (s₂ := S999) 0 _ _ concatenates_S1_S999_S1000_d0 (ix1 i) rfl rfl
    (ix1 (⟨i.val - 1, hs⟩ : Fin 999)) (fun b hb => absurd (Subsingleton.elim (α := Fin 1) _ _) hb) ?_).trans ?_
  · show i.val - 1 + 1 = i.val
    omega
  · refine (slice1 (m := 1000) (n := 999) 0 w slices_S1000_S999_0 ⟨i.val - 1, hs⟩ (by show 0 + (i.val - 1) < 1000; omega)).trans ?_
    exact (congrArg (fun q : Fin 1000 => w (ix1 q)) (Fin.ext (Nat.zero_add _))).trans (hw ⟨i.val - 1, hs⟩)

/-- Zero, then 1600 throughout. -/
theorem shifted_eq (i : Fin 1000) : shifted w (ix1 i) = BitVec.ofNat 32 (if i.val = 0 then 0 else 1600) := by
  refine (scatter_one scatter_S1000_S1_S__n_0_0_0 rfl rfl (rolled w) _ (word 0#32) (0 : Fin 1000) (by decide) (bc0 _ _ _) i).trans ?_
  by_cases h : i.val = 0
  · rw [if_pos (Fin.ext h), if_pos h]
    rfl
  · rw [if_neg fun q => h (congrArg Fin.val q), if_neg h]
    exact rolled_eq hw i h

/-- Group `j` starts at edge `1600 j`. -/
theorem firstEdge_eq (j : Fin 1000) : firstEdge w (ix1 j) = BitVec.ofNat 32 (1600 * j.val) := by
  refine (cumsum1 (N := 1000) rfl (shifted w) (fun i => if i = 0 then 0 else 1600) (shifted_eq hw) _ (bc0 _ _ _) _ _ j).trans ?_
  rw [sum_const_tail]

/-- No first edge is negative. -/
theorem firstEdgeWrapped_eq (j : Fin 1000) : firstEdgeWrapped w (ix1 j) = BitVec.ofNat 32 (1600 * j.val) := by
  have hj : 1600 * j.val < 2147483648 := by have := j.isLt; omega
  have hlt : (firstEdge w (ix1 j)).toNat < 2 ^ (32 - 1) := by
    rw [firstEdge_eq hw, BitVec.toNat_ofNat]
    exact (Nat.mod_le _ _).trans_lt hj
  have h : firstEdgeWrapped w (ix1 j) = Scalar.select (IntOp.cmpi .slt (firstEdge w (ix1 j)) 0#32)
      (firstEdge w (ix1 j) + 1600000#32) (firstEdge w (ix1 j)) := rfl
  rw [h, wrap_of_lt _ _ hlt, firstEdge_eq hw]

/-- There is a one at each multiple of 1600, and zero elsewhere. -/
theorem marks_eq (e : Fin 1600000) : marks w (ix1 e) = BitVec.ofNat 32 (if 1600 ∣ e.val then 1 else 0) := by
  refine (scatter_ones scatter_S1600000_S1000x1_S1000_n_0_0_1 rfl rfl rfl _ (fun _ => bc0 _ _ _) _ _ (fun _ => bc0 _ _ _)
    (fun i => 1600 * i) (fun i => (bcCol _ _ i).trans (firstEdgeWrapped_eq hw i)) (fun i => ?_) e).trans ?_
  · have := i.isLt
    omega
  · rw [count_multiples 1600 (by decide)]
    have he := e.isLt
    exact congrArg _ (if_congr (and_iff_left (by omega)) rfl rfl)

/-- Up to edge `e`, `e / 1600 + 1` groups have started. -/
theorem started_eq (e : Fin 1600000) : started w (ix1 e) = BitVec.ofNat 32 (e.val / 1600 + 1) := by
  refine (cumsum1 (N := 1600000) rfl (marks w) (fun e => if 1600 ∣ e then 1 else 0) (marks_eq hw) _ (bc0 _ _ _) _ _ e).trans ?_
  rw [sum_multiples 1600 (by decide)]

/-- Edge `e`'s group has position `e / 1600`. -/
theorem position_eq (e : Fin 1600000) : position w (ix1 e) = BitVec.ofNat 32 (e.val / 1600) := by
  have h : position w (ix1 e) = started w (ix1 e) - 1#32 := rfl
  rw [h, started_eq hw, BitVec.ofNat_add]
  exact BitVec.add_sub_cancel _ _

/-- The same in the column, no position being negative. -/
theorem positionCol_eq (e : Fin 1600000) : positionCol w (ix2 e (0 : Fin 1)) = BitVec.ofNat 32 (e.val / 1600) := by
  have he := e.isLt
  refine (bcCol _ _ e).trans (Eq.trans (wrap_of_lt (position w (ix1 e)) _ ?_) (position_eq hw e))
  rw [position_eq hw, BitVec.toNat_ofNat, Nat.mod_eq_of_lt] <;> omega

/-- Every position lies in range. -/
theorem inRange_eq (e : S1600000.Idx) : inRange w e = 1#1 := by
  refine Host.reduce_andi_one _ _ _ _ _ rfl fun i => ?_
  obtain ⟨p, q, rfl⟩ : ∃ (p : Fin 1600000) (q : Fin 1), i = ix2 p q := ⟨i 0, i 1, by
    funext a
    match a with
    | ⟨0, _⟩ => rfl
    | ⟨1, _⟩ => rfl⟩
  obtain rfl : q = 0 := Subsingleton.elim _ _
  have hp := p.isLt
  show IntOp.andi (IntOp.cmpi .sge (positionCol w (ix2 p 0)) 0#32) (IntOp.cmpi .sle (positionCol w (ix2 p 0)) 999#32) = 1#1
  rw [positionCol_eq hw]
  have h0 : (BitVec.ofNat 32 (p.val / 1600)).toInt = ((p.val / 1600 : ℕ) : ℤ) := StableHlo.Predicate.toInt_ofNat_small _ (by omega)
  have hg : IntOp.cmpi .sge (BitVec.ofNat 32 (p.val / 1600)) 0#32 = 1#1 := by
    have hz : (0#32 : BitVec 32).toInt = 0 := by decide
    simp only [IntOp.cmpi, BitVec.sle, h0, hz]
    rw [decide_eq_true (by omega)]
    rfl
  have hl : IntOp.cmpi .sle (BitVec.ofNat 32 (p.val / 1600)) 999#32 = 1#1 := by
    have h9 : (999#32 : BitVec 32).toInt = 999 := by decide
    simp only [IntOp.cmpi, BitVec.sle, h0, h9]
    rw [decide_eq_true (by omega)]
    rfl
  rw [hg, hl]
  rfl

/-- Edge `e` belongs to group `e / 1600`. -/
theorem groupOf_eq (e : Fin 1600000) : groupOf w (ix1 e) = BitVec.ofNat 32 (e.val / 1600) := by
  have he := e.isLt
  have h : groupOf w (ix1 e) = Scalar.select (inRange w (ix1 e))
    (Host.gather gather_S1000_S1600000x1_S1600000_n_0_n_n_0_1_1 (iotaInDim S1000 32 0) (positionCol w) (ix1 e)) 2147483648#32 := rfl
  rw [h, inRange_eq hw]
  exact gather_take1 gather_S1000_S1600000x1_S1600000_n_0_n_n_0_1_1 rfl rfl rfl rfl (iotaInDim S1000 32 0) (positionCol w) e
    (⟨e.val / 1600, by omega⟩ : Fin 1000) (positionCol_eq hw e) (by decide)

end

end Cert.Proof.SegRef

end
-- ==== Proof.RefAdd.lean ====
/-
  A scatter that adds rows into a matrix, over exact numbers and at any extents: each element gains the sum of the rows sent to its
  row. And a sum over the numbers with a given quotient, as a sum over the remainders.
-/
module

public import proofs.«01_k».proof.Proof.RefOps
public import Idealize.ShloMosaic.Lib.IdealHost

@[expose] public section

noncomputable section

namespace Cert.Proof.SegRef

open Idealize.ShloMosaic Idealize.ShloMosaic.ValueIdx Idealize.ShloMosaic.Routing

/-- An index of a matrix is the pair of its coordinates. -/
theorem idx_pair {a b : ℕ} (j : (shape2 a b).Idx) : ∃ (p : Fin a) (q : Fin b), j = ix2 p q :=
  ⟨j 0, j 1, by
    funext i
    match i with
    | ⟨0, _⟩ => rfl
    | ⟨1, _⟩ => rfl⟩

/-- Element `(r, c)` of the scatter: the operand's element plus, over the rows whose index word read signed is `r`, their column `c`. -/
theorem scatterAdd_rows {K R C : ℕ} (d : ScatterDims (shape2 R C) (shape2 K 1) (shape2 K C)) (huw : d.updateWindowDims = [1])
    (hiw : d.insertedWindowDims = [0]) (hsd : d.scatterDimsToOperandDims = [0]) (hivd : d.indexVectorDim = 1)
    (x : FVec Ideal (shape2 R C) .f32) (idx : IVec (shape2 K 1) 32) (upd : FVec Ideal (shape2 K C) .f32) (r : Fin R) (c : Fin C) :
    (Host.scatterAdd d x idx upd (ix2 r c) : EReal)
      = x (ix2 r c) + ∑ k ∈ Finset.univ.filter (fun k : Fin K => (idx (ix2 k (0 : Fin 1))).toInt = (r.val : ℤ)), upd (ix2 k c) := by
  have h : (Host.scatterAdd d x idx upd (ix2 r c) : EReal)
      = x (ix2 r c) + ∑ j ∈ Finset.univ.filter (fun j => d.resultIdx? j idx = some (ix2 r c)), upd j := rfl
  rw [h]
  refine congrArg _ (Finset.sum_bij (fun k _ => (ix2 k c : (shape2 K C).Idx)) (fun k hk => ?_) (fun k _ k' _ e => ?_) (fun j hj => ?_)
    (fun _ _ => rfl)).symm
  · exact Finset.mem_filter.2 ⟨Finset.mem_univ _, (lands_row d huw hiw hsd hivd idx k c r c).2 ⟨(Finset.mem_filter.1 hk).2, rfl⟩⟩
  · exact congrArg (fun i : (shape2 K C).Idx => i 0) e
  · obtain ⟨k, l, rfl⟩ := idx_pair j
    obtain ⟨hk, rfl⟩ := (lands_row d huw hiw hsd hivd idx k l r c).1 (Finset.mem_filter.1 hj).2
    exact ⟨k, Finset.mem_filter.2 ⟨Finset.mem_univ _, hk⟩, rfl⟩

/-- The numbers below `N` with quotient `g` by `c` are `c g + r` for `r` below `c`, when those lie below `N`. -/
theorem sum_quotient {M : Type} [AddCommMonoid M] (N c g : ℕ) (hc : 0 < c) (h : ∀ r : Fin c, c * g + r.val < N) (f : Fin N → M) :
    ∑ e ∈ Finset.univ.filter (fun e : Fin N => e.val / c = g), f e = ∑ r : Fin c, f ⟨c * g + r.val, h r⟩ := by
  refine (Finset.sum_bij (fun (r : Fin c) _ => (⟨c * g + r.val, h r⟩ : Fin N)) (fun r _ => ?_) (fun r _ r' _ e => ?_) (fun e he => ?_)
    (fun _ _ => rfl)).symm
  · refine Finset.mem_filter.2 ⟨Finset.mem_univ _, ?_⟩
    show (c * g + r.val) / c = g
    rw [Nat.mul_add_div hc, Nat.div_eq_of_lt r.isLt, Nat.add_zero]
  · exact Fin.ext (Nat.add_left_cancel (congrArg Fin.val e))
  · obtain rfl := (Finset.mem_filter.1 he).2
    exact ⟨⟨e.val % c, Nat.mod_lt _ hc⟩, Finset.mem_univ _, Fin.ext (Nat.div_add_mod e.val c)⟩

end Cert.Proof.SegRef

end
-- ==== Proof.RefSum.lean ====
/-
  What the reference computes over exact numbers where every group but the last is given 1600 edges: column `l` of group `g` is the sum of that column
  over the edges `1600 g … 1600 g + 1599`.
-/
module

public import proofs.«01_k».proof.Proof.Gen.ReferenceIdeal.Run
public import proofs.«01_k».proof.Proof.RefIndex
public import proofs.«01_k».proof.Proof.RefAdd

@[expose] public section

noncomputable section

namespace Cert.Proof.SegRef

open Cert.ReferenceIdeal Cert.ReferenceIdeal.Gen Cert.ReferenceIdeal.Facts
open Idealize.ShloMosaic
open Idealize.ShloMosaic.ValueIdx Idealize.ShloMosaic.Routing

/-- The reference's result, from the edges and the group lengths: the edges' rows added into zeros, each at its group's row. -/
def grouped {F : FTy → Type} [FloatOps F] (x : FVec F S1600000x16 .f32) (w : IVec S1000 32) : FVec F S1000x16 .f32 :=
  Host.scatterAdd scatter_S1000x16_S1600000x1_S1600000x16_1_0_0_1
    (broadcastInDim S1000x16 ![] bcast_S_S1000x16 (constant S_ .f32 0x00000000#32))
    (broadcastInDim S1600000x1 ![0] bcast_S1600000_S1600000x1_0 (groupOf w)) x

/-- The program's result buffer holds `grouped` of its first and third arguments. -/
theorem result_eq {F : FTy → Type} [FloatOps F] (m : (ℓ : Loc nD τ sig) → Buf (Elt F) ℓ) (c : Dev nD) :
    Value.res_main_v20 m c = grouped (m ((c.tc : Thread nD τ).loc main_arg0)) (m ((c.tc : Thread nD τ).loc main_arg2)) := rfl

/-- The edges of group `g` are `1600 g + r` for `r` below 1600. -/
theorem edge_lt (g : Fin 1000) (r : Fin 1600) : 1600 * g.val + r.val < 1600000 := by
  have := g.isLt
  have := r.isLt
  omega

/-- The scalar the result starts from is zero. -/
theorem zero_scalar : (constant (F := Ideal) S_ .f32 0x00000000#32 ix0 : EReal) = 0 := by
  show Ideal.ofBits .f32 0x00000000#32 = 0
  simp [Ideal.ofBits, Ideal.ieee]

/-- Column `l` of group `g` in the result: the sum over the group's edges. -/
theorem grouped_eq (x : FVec Ideal S1600000x16 .f32) (w : IVec S1000 32) (hw : ∀ i : Fin 999, w (ix1 i.castSucc) = 1600#32) (g : Fin 1000) (l : Fin 16) :
    (grouped x w (ix2 g l) : EReal) = ∑ r : Fin 1600, x (ix2 ⟨1600 * g.val + r.val, edge_lt g r⟩ l) := by
  have hz : ((broadcastInDim S1000x16 ![] bcast_S_S1000x16 (constant (F := Ideal) S_ .f32 0x00000000#32)) (ix2 g l) : EReal) = 0 :=
    (bc0 _ _ _).trans zero_scalar
  have hd : ∀ e : Fin 1600000, (broadcastInDim S1600000x1 ![0] bcast_S1600000_S1600000x1_0 (groupOf w) (ix2 e (0 : Fin 1))).toInt
      = (g.val : ℤ) ↔ e.val / 1600 = g.val := by
    intro e
    have he := e.isLt
    rw [bcCol _ _ e, groupOf_eq hw e, StableHlo.Predicate.toInt_ofNat_small _ (by omega)]
    exact Nat.cast_inj
  rw [grouped, scatterAdd_rows scatter_S1000x16_S1600000x1_S1600000x16_1_0_0_1 rfl rfl rfl rfl, hz, zero_add,
    Finset.filter_congr fun e _ => hd e]
  exact sum_quotient 1600000 1600 g.val (by decide) (edge_lt g) fun e => x (ix2 e l)

end Cert.Proof.SegRef

end
-- ==== Proof.Equation.lean ====
/-
  The kernel's result and the reference's are the same array over exact numbers, where every group but the last
  is given 1600 edges.
-/
module

public import proofs.«01_k».proof.Proof.Gen.Pre_even_partition
public import proofs.«01_k».proof.Proof.IdealOut
public import proofs.«01_k».proof.Proof.RefSum

@[expose] public section

noncomputable section

namespace Cert.Proof

open Idealize.ShloMosaic
open Idealize.ShloMosaic.ValueIdx Idealize.ShloMosaic.Routing

/-- The precondition says that every group length but the last is the word 1600. -/
theorem lengths_of_pre (x : FVec Ideal Cert.Pre_even_partition.S1600000x16 .f32) (n w : IVec Cert.Pre_even_partition.S1000 32)
    (h : Cert.Pre_even_partition.fn (F := Ideal) x n w = fun _ => 1#1) (i : Fin 999) : w (ix1 i.castSucc) = 1600#32 := by
  have hs : Subsingleton Cert.Pre_even_partition.S_.Idx := ⟨fun a b => funext fun k => k.elim0⟩
  have h1 := Host.reduce_andi_all _ _ _ _ _ (congrFun h ix0) (ix1 i)
  have h2 : IntOp.cmpi .eq (extractStridedSlice Cert.Pre_even_partition.S999 ![0] w
    Cert.Pre_even_partition.Facts.slices_S1000_S999_0 (ix1 i)) 1600#32 = 1#1 := h1
  rw [slice1 (m := 1000) (n := 999) 0 w Cert.Pre_even_partition.Facts.slices_S1000_S999_0 i (by have := i.isLt; omega)] at h2
  refine (congrArg (fun q : Fin 1000 => w (ix1 q)) (Fin.ext (Nat.zero_add _).symm)).trans (IntOp.cmpi_eq.1 h2)

/-- From the same edges, and group lengths that are 1600 but for the last, both programs compute the same sums. -/
theorem value_eq (m : (ℓ : Loc Cert.KernelIdeal.nD Cert.KernelIdeal.τ Cert.KernelIdeal.sig) → Buf (Elt Ideal) ℓ)
    (d : Dev Cert.KernelIdeal.nD) (x : FVec Ideal Cert.ReferenceIdeal.S1600000x16 .f32) (w : IVec Cert.ReferenceIdeal.S1000 32)
    (hx : x = SegIdeal.edges m d) (hw : ∀ i : Fin 999, w (ix1 i.castSucc) = 1600#32) : SegRef.grouped x w = SegIdeal.outVal (F := Ideal) m d := by
  funext j
  obtain ⟨g, l, rfl⟩ := SegRef.idx_pair (a := 1000) (b := 16) j
  exact (SegRef.grouped_eq x w hw g l).trans (Eq.trans (by rw [hx]) (SegIdeal.outVal_eq m d g l (SegRef.edge_lt g)).symm)

end Cert.Proof

end
-- ==== Proof.lean ====
/-
  The claims, put together: the kernel's run over both number types, the reference's run, and the equation between their results.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_even_partition
public import proofs.«01_k».proof.Proof.KernelRun
public import proofs.«01_k».proof.Proof.IdealRun
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel, as printed, runs to the end, leaves its arguments as they were and every semaphore counter at zero. -/
theorem kernel_frame : quiescent_Kernel := fun m g _ =>
  (θ_run Cert.Kernel.defs _ _).mono (fun _ h => ⟨fun c => ⟨(h.1 c).1, (h.1 c).2.1, (h.1 c).2.2.1⟩, h.2⟩) (SegKernel.run_main (F := Bits) m g)

/-- The same over exact numbers. -/
theorem ideal_frame : quiescent_KernelIdeal := fun m g _ =>
  (θ_run Cert.KernelIdeal.defs _ _).mono (fun _ h => ⟨fun c => ⟨(h.1 c).1, (h.1 c).2.1, (h.1 c).2.2.1⟩, h.2⟩)
    (SegIdeal.run_main (F := Ideal) m g)

/-- The reference over exact numbers runs to the end, leaves its arguments as they were and every semaphore counter at zero. -/
theorem reference_frame : quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- From equal arguments, every group length but the last being 1600, the kernel and the reference end with equal results. -/
theorem same_result : algebraic_KernelIdeal_ReferenceIdeal_pre_even_partition := fun m g m' g' hpre hargs => by
  refine ⟨fun c => SegIdeal.outVal (F := Ideal) m c, ?_, ?_⟩
  · exact (θ_run Cert.KernelIdeal.defs _ _).mono (fun _ h c => ⟨(h.1 c).2.2.2, (h.1 c).1, (h.1 c).2.1, (h.1 c).2.2.1⟩)
      (SegIdeal.run_main (F := Ideal) m g)
  · refine (θ_run Cert.ReferenceIdeal.defs _ _).mono (fun _ h c => ⟨(h c).1.trans ?_, (h c).2⟩)
      (Cert.ReferenceIdeal.Value.run (F := Ideal) m' g')
    have hw := lengths_of_pre _ _ _ (hpre c)
    rw [SegRef.result_eq]
    exact value_eq m c _ _ (hargs c).1 fun i => (congrFun (hargs c).2.2 _).trans (hw i)

theorem claim : Cert.Claim :=
  ⟨Cert.Kernel.Gen.facts, Cert.KernelIdeal.Gen.facts, Cert.ReferenceIdeal.Gen.facts, Cert.Pre_even_partition.Gen.facts,
    kernel_frame, ideal_frame, fun m g _ => ideal_frame m g trivial, reference_frame, fun m g _ => reference_frame m g trivial,
    trivial, same_result⟩

end Cert.Proof

end
